-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S3x256x2048 : Shape := ⟨3, ![3, 256, 2048]⟩
abbrev S2x256x2048 : Shape := ⟨3, ![2, 256, 2048]⟩
abbrev S3 : Shape := ⟨1, ![3]⟩
abbrev S2 : Shape := ⟨1, ![2]⟩
abbrev S_ : Shape := ⟨0, ![]⟩
abbrev S256x256 : Shape := ⟨2, ![256, 256]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 14
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .f32⟩
  | .local _ .vmem, ⟨0, _⟩ => ⟨S4096x256, .bf16⟩
  | .local _ .vmem, ⟨1, _⟩ => ⟨S256x8192, .bf16⟩
  | .local _ .vmem, ⟨2, _⟩ => ⟨S3x256x2048, .bf16⟩
  | .local _ .vmem, ⟨3, _⟩ => ⟨S3x256x2048, .bf16⟩
  | .local _ .vmem, ⟨4, _⟩ => ⟨S3x256x2048, .bf16⟩
  | .local _ .vmem, ⟨5, _⟩ => ⟨S3x256x2048, .bf16⟩
  | .local _ .vmem, ⟨6, _⟩ => ⟨S3x256x2048, .bf16⟩
  | .local _ .vmem, ⟨7, _⟩ => ⟨S3x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S2x256x2048, .f32⟩
  | .local _ .vmem, ⟨11, _⟩ => ⟨S2x256x2048, .f32⟩
  | .local _ .vmem, ⟨12, _⟩ => ⟨S2x256x2048, .f32⟩
  | .local _ .vmem, ⟨13, _⟩ => ⟨S2x256x2048, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 5 34 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v13 : BitVec 32 := Scalar.muli v2 c256_i32
  let v14 : Index := Scalar.indexCast v13
  let c0 : Index := 0#32
  ![v14.toNat, 0]
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_19 : BitVec 32 := 1#32
  let v24 : BitVec 32 := Scalar.muli v7 c1_i32_19
  let v25 : BitVec 32 := Scalar.addi c0_i32_20 v24
  v25.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_36 : BitVec 32 := 1#32
  let v45 : BitVec 32 := Scalar.muli v5 c1_i32_36
  let v46 : BitVec 32 := Scalar.addi c0_i32_37 v45
  v46.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_53 : BitVec 32 := 1#32
  let v66 : BitVec 32 := Scalar.muli v7 c1_i32_53
  let v67 : BitVec 32 := Scalar.addi c0_i32_54 v66
  v67.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_70 : BitVec 32 := 1#32
  let v87 : BitVec 32 := Scalar.muli v5 c1_i32_70
  let v88 : BitVec 32 := Scalar.addi c0_i32_71 v87
  v88.toNat
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v97 : BitVec 32 := Scalar.addi v2 c32_i32
  let v98 : BitVec 32 := Scalar.addi v97 c_m1_i32
  let c16_i32_76 : BitVec 32 := 16#32
  let v99 : BitVec 32 := Scalar.remsi v98 c16_i32_76
  let c256_i32_77 : BitVec 32 := 256#32
  let v100 : BitVec 32 := Scalar.muli v99 c256_i32_77
  let v101 : Index := Scalar.indexCast v100
  let c0_78 : Index := 0#32
  ![v101.toNat, 0]
def k0_off2_at (r : Fin 30) : BitVec 32 :=
  if r.val < 15 then
    if r.val < 7 then
      if r.val < 3 then
        if r.val < 1 then
          4294967295#32
        else
          if r.val < 2 then
            1#32
          else
            4294967294#32
      else
        if r.val < 5 then
          if r.val < 4 then
            2#32
          else
            4294967293#32
        else
          if r.val < 6 then
            3#32
          else
            4294967292#32
    else
      if r.val < 11 then
        if r.val < 9 then
          if r.val < 8 then
            4#32
          else
            4294967291#32
        else
          if r.val < 10 then
            5#32
          else
            4294967290#32
      else
        if r.val < 13 then
          if r.val < 12 then
            6#32
          else
            4294967289#32
        else
          if r.val < 14 then
            7#32
          else
            4294967288#32
  else
    if r.val < 22 then
      if r.val < 18 then
        if r.val < 16 then
          8#32
        else
          if r.val < 17 then
            4294967287#32
          else
            9#32
      else
        if r.val < 20 then
          if r.val < 19 then
            4294967286#32
          else
            10#32
        else
          if r.val < 21 then
            4294967285#32
          else
            11#32
    else
      if r.val < 26 then
        if r.val < 24 then
          if r.val < 23 then
            4294967284#32
          else
            12#32
        else
          if r.val < 25 then
            4294967283#32
          else
            13#32
      else
        if r.val < 28 then
          if r.val < 27 then
            4294967282#32
          else
            14#32
        else
          if r.val < 29 then
            4294967281#32
          else
            15#32
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_110 : BitVec 32 := 1#32
  let v128 : BitVec 32 := Scalar.muli v7 c1_i32_110
  let v129 : BitVec 32 := Scalar.addi c0_i32_111 v128
  v129.toNat
def k0_dev8 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_117 : BitVec 32 := 1#32
  let v138 : BitVec 32 := Scalar.muli v5 c1_i32_117
  let v139 : BitVec 32 := Scalar.addi c0_i32_118 v138
  v139.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_156 : BitVec 32 := 1#32
  let v171 : BitVec 32 := Scalar.muli v5 c1_i32_156
  let v172 : BitVec 32 := Scalar.addi c0_i32_157 v171
  v172.toNat
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_163 : BitVec 32 := 1#32
  let v181 : BitVec 32 := Scalar.muli v7 c1_i32_163
  let v182 : BitVec 32 := Scalar.addi c0_i32_164 v181
  v182.toNat
def k0_dev11 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_202 : BitVec 32 := 1#32
  let v214 : BitVec 32 := Scalar.muli v7 c1_i32_202
  let v215 : BitVec 32 := Scalar.addi c0_i32_203 v214
  v215.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_209 : BitVec 32 := 1#32
  let v224 : BitVec 32 := Scalar.muli v5 c1_i32_209
  let v225 : BitVec 32 := Scalar.addi c0_i32_210 v224
  v225.toNat
def k0_dev13 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_248 : BitVec 32 := 1#32
  let v257 : BitVec 32 := Scalar.muli v5 c1_i32_248
  let v258 : BitVec 32 := Scalar.addi c0_i32_249 v257
  v258.toNat
def k0_dev14 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_255 : BitVec 32 := 1#32
  let v267 : BitVec 32 := Scalar.muli v7 c1_i32_255
  let v268 : BitVec 32 := Scalar.addi c0_i32_256 v267
  v268.toNat
def k0_dev15 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_292 : BitVec 32 := 1#32
  let v300 : BitVec 32 := Scalar.muli v7 c1_i32_292
  let v301 : BitVec 32 := Scalar.addi c0_i32_293 v300
  v301.toNat
def k0_dev16 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_299 : BitVec 32 := 1#32
  let v310 : BitVec 32 := Scalar.muli v5 c1_i32_299
  let v311 : BitVec 32 := Scalar.addi c0_i32_300 v310
  v311.toNat
def k0_dev17 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_338 : BitVec 32 := 1#32
  let v343 : BitVec 32 := Scalar.muli v5 c1_i32_338
  let v344 : BitVec 32 := Scalar.addi c0_i32_339 v343
  v344.toNat
def k0_dev18 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_345 : BitVec 32 := 1#32
  let v353 : BitVec 32 := Scalar.muli v7 c1_i32_345
  let v354 : BitVec 32 := Scalar.addi c0_i32_346 v353
  v354.toNat
def k0_dev19 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_384 : BitVec 32 := 1#32
  let v386 : BitVec 32 := Scalar.muli v7 c1_i32_384
  let v387 : BitVec 32 := Scalar.addi c0_i32_385 v386
  v387.toNat
def k0_dev20 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_391 : BitVec 32 := 1#32
  let v396 : BitVec 32 := Scalar.muli v5 c1_i32_391
  let v397 : BitVec 32 := Scalar.addi c0_i32_392 v396
  v397.toNat
def k0_dev21 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_430 : BitVec 32 := 1#32
  let v429 : BitVec 32 := Scalar.muli v5 c1_i32_430
  let v430 : BitVec 32 := Scalar.addi c0_i32_431 v429
  v430.toNat
def k0_dev22 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_437 : BitVec 32 := 1#32
  let v439 : BitVec 32 := Scalar.muli v7 c1_i32_437
  let v440 : BitVec 32 := Scalar.addi c0_i32_438 v439
  v440.toNat
def k0_dev23 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_477 : BitVec 32 := 1#32
  let v472 : BitVec 32 := Scalar.muli v7 c1_i32_477
  let v473 : BitVec 32 := Scalar.addi c0_i32_478 v472
  v473.toNat
def k0_dev24 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_484 : BitVec 32 := 1#32
  let v482 : BitVec 32 := Scalar.muli v5 c1_i32_484
  let v483 : BitVec 32 := Scalar.addi c0_i32_485 v482
  v483.toNat
def k0_dev25 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_524 : BitVec 32 := 1#32
  let v515 : BitVec 32 := Scalar.muli v5 c1_i32_524
  let v516 : BitVec 32 := Scalar.addi c0_i32_525 v515
  v516.toNat
def k0_dev26 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_531 : BitVec 32 := 1#32
  let v525 : BitVec 32 := Scalar.muli v7 c1_i32_531
  let v526 : BitVec 32 := Scalar.addi c0_i32_532 v525
  v526.toNat
def k0_dev27 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_572 : BitVec 32 := 1#32
  let v558 : BitVec 32 := Scalar.muli v7 c1_i32_572
  let v559 : BitVec 32 := Scalar.addi c0_i32_573 v558
  v559.toNat
def k0_dev28 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_579 : BitVec 32 := 1#32
  let v568 : BitVec 32 := Scalar.muli v5 c1_i32_579
  let v569 : BitVec 32 := Scalar.addi c0_i32_580 v568
  v569.toNat
def k0_dev29 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_620 : BitVec 32 := 1#32
  let v601 : BitVec 32 := Scalar.muli v5 c1_i32_620
  let v602 : BitVec 32 := Scalar.addi c0_i32_621 v601
  v602.toNat
def k0_dev30 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_627 : BitVec 32 := 1#32
  let v611 : BitVec 32 := Scalar.muli v7 c1_i32_627
  let v612 : BitVec 32 := Scalar.addi c0_i32_628 v611
  v612.toNat
def k0_dev31 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_667 : BitVec 32 := 1#32
  let v644 : BitVec 32 := Scalar.muli v7 c1_i32_667
  let v645 : BitVec 32 := Scalar.addi c0_i32_668 v644
  v645.toNat
def k0_dev32 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_674 : BitVec 32 := 1#32
  let v654 : BitVec 32 := Scalar.muli v5 c1_i32_674
  let v655 : BitVec 32 := Scalar.addi c0_i32_675 v654
  v655.toNat
def k0_dev33 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_714 : BitVec 32 := 1#32
  let v687 : BitVec 32 := Scalar.muli v5 c1_i32_714
  let v688 : BitVec 32 := Scalar.addi c0_i32_715 v687
  v688.toNat
def k0_dev34 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_721 : BitVec 32 := 1#32
  let v697 : BitVec 32 := Scalar.muli v7 c1_i32_721
  let v698 : BitVec 32 := Scalar.addi c0_i32_722 v697
  v698.toNat
def k0_dev35 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_762 : BitVec 32 := 1#32
  let v730 : BitVec 32 := Scalar.muli v7 c1_i32_762
  let v731 : BitVec 32 := Scalar.addi c0_i32_763 v730
  v731.toNat
def k0_dev36 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_769 : BitVec 32 := 1#32
  let v740 : BitVec 32 := Scalar.muli v5 c1_i32_769
  let v741 : BitVec 32 := Scalar.addi c0_i32_770 v740
  v741.toNat
def k0_dev37 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_810 : BitVec 32 := 1#32
  let v773 : BitVec 32 := Scalar.muli v5 c1_i32_810
  let v774 : BitVec 32 := Scalar.addi c0_i32_811 v773
  v774.toNat
def k0_dev38 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_817 : BitVec 32 := 1#32
  let v783 : BitVec 32 := Scalar.muli v7 c1_i32_817
  let v784 : BitVec 32 := Scalar.addi c0_i32_818 v783
  v784.toNat
def k0_dev39 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_857 : BitVec 32 := 1#32
  let v816 : BitVec 32 := Scalar.muli v7 c1_i32_857
  let v817 : BitVec 32 := Scalar.addi c0_i32_858 v816
  v817.toNat
def k0_dev40 (d0 : Dev nD) : Nat :=
  let c0_i32_865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_864 : BitVec 32 := 1#32
  let v826 : BitVec 32 := Scalar.muli v5 c1_i32_864
  let v827 : BitVec 32 := Scalar.addi c0_i32_865 v826
  v827.toNat
def k0_dev41 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_904 : BitVec 32 := 1#32
  let v859 : BitVec 32 := Scalar.muli v5 c1_i32_904
  let v860 : BitVec 32 := Scalar.addi c0_i32_905 v859
  v860.toNat
def k0_dev42 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_911 : BitVec 32 := 1#32
  let v869 : BitVec 32 := Scalar.muli v7 c1_i32_911
  let v870 : BitVec 32 := Scalar.addi c0_i32_912 v869
  v870.toNat
def k0_dev43 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_952 : BitVec 32 := 1#32
  let v902 : BitVec 32 := Scalar.muli v7 c1_i32_952
  let v903 : BitVec 32 := Scalar.addi c0_i32_953 v902
  v903.toNat
def k0_dev44 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_959 : BitVec 32 := 1#32
  let v912 : BitVec 32 := Scalar.muli v5 c1_i32_959
  let v913 : BitVec 32 := Scalar.addi c0_i32_960 v912
  v913.toNat
def k0_dev45 (d0 : Dev nD) : Nat :=
  let c0_i32_1001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1000 : BitVec 32 := 1#32
  let v945 : BitVec 32 := Scalar.muli v5 c1_i32_1000
  let v946 : BitVec 32 := Scalar.addi c0_i32_1001 v945
  v946.toNat
def k0_dev46 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1007 : BitVec 32 := 1#32
  let v955 : BitVec 32 := Scalar.muli v7 c1_i32_1007
  let v956 : BitVec 32 := Scalar.addi c0_i32_1008 v955
  v956.toNat
def k0_dev47 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1047 : BitVec 32 := 1#32
  let v988 : BitVec 32 := Scalar.muli v7 c1_i32_1047
  let v989 : BitVec 32 := Scalar.addi c0_i32_1048 v988
  v989.toNat
def k0_dev48 (d0 : Dev nD) : Nat :=
  let c0_i32_1055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1054 : BitVec 32 := 1#32
  let v998 : BitVec 32 := Scalar.muli v5 c1_i32_1054
  let v999 : BitVec 32 := Scalar.addi c0_i32_1055 v998
  v999.toNat
def k0_dev49 (d0 : Dev nD) : Nat :=
  let c0_i32_1095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1094 : BitVec 32 := 1#32
  let v1031 : BitVec 32 := Scalar.muli v5 c1_i32_1094
  let v1032 : BitVec 32 := Scalar.addi c0_i32_1095 v1031
  v1032.toNat
def k0_dev50 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1101 : BitVec 32 := 1#32
  let v1041 : BitVec 32 := Scalar.muli v7 c1_i32_1101
  let v1042 : BitVec 32 := Scalar.addi c0_i32_1102 v1041
  v1042.toNat
def k0_dev51 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1142 : BitVec 32 := 1#32
  let v1074 : BitVec 32 := Scalar.muli v7 c1_i32_1142
  let v1075 : BitVec 32 := Scalar.addi c0_i32_1143 v1074
  v1075.toNat
def k0_dev52 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1149 : BitVec 32 := 1#32
  let v1084 : BitVec 32 := Scalar.muli v5 c1_i32_1149
  let v1085 : BitVec 32 := Scalar.addi c0_i32_1150 v1084
  v1085.toNat
def k0_dev53 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1190 : BitVec 32 := 1#32
  let v1117 : BitVec 32 := Scalar.muli v5 c1_i32_1190
  let v1118 : BitVec 32 := Scalar.addi c0_i32_1191 v1117
  v1118.toNat
def k0_dev54 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1197 : BitVec 32 := 1#32
  let v1127 : BitVec 32 := Scalar.muli v7 c1_i32_1197
  let v1128 : BitVec 32 := Scalar.addi c0_i32_1198 v1127
  v1128.toNat
def k0_dev55 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1237 : BitVec 32 := 1#32
  let v1160 : BitVec 32 := Scalar.muli v7 c1_i32_1237
  let v1161 : BitVec 32 := Scalar.addi c0_i32_1238 v1160
  v1161.toNat
def k0_dev56 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1244 : BitVec 32 := 1#32
  let v1170 : BitVec 32 := Scalar.muli v5 c1_i32_1244
  let v1171 : BitVec 32 := Scalar.addi c0_i32_1245 v1170
  v1171.toNat
def k0_dev57 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1284 : BitVec 32 := 1#32
  let v1203 : BitVec 32 := Scalar.muli v5 c1_i32_1284
  let v1204 : BitVec 32 := Scalar.addi c0_i32_1285 v1203
  v1204.toNat
def k0_dev58 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1291 : BitVec 32 := 1#32
  let v1213 : BitVec 32 := Scalar.muli v7 c1_i32_1291
  let v1214 : BitVec 32 := Scalar.addi c0_i32_1292 v1213
  v1214.toNat
def k0_dev59 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1332 : BitVec 32 := 1#32
  let v1246 : BitVec 32 := Scalar.muli v7 c1_i32_1332
  let v1247 : BitVec 32 := Scalar.addi c0_i32_1333 v1246
  v1247.toNat
def k0_dev60 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1339 : BitVec 32 := 1#32
  let v1256 : BitVec 32 := Scalar.muli v5 c1_i32_1339
  let v1257 : BitVec 32 := Scalar.addi c0_i32_1340 v1256
  v1257.toNat
def k0_dev61 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1380 : BitVec 32 := 1#32
  let v1289 : BitVec 32 := Scalar.muli v5 c1_i32_1380
  let v1290 : BitVec 32 := Scalar.addi c0_i32_1381 v1289
  v1290.toNat
def k0_dev62 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1387 : BitVec 32 := 1#32
  let v1299 : BitVec 32 := Scalar.muli v7 c1_i32_1387
  let v1300 : BitVec 32 := Scalar.addi c0_i32_1388 v1299
  v1300.toNat
def k0_dev63 (d0 : Dev nD) : Nat :=
  let c0_i32_1428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1427 : BitVec 32 := 1#32
  let v1332 : BitVec 32 := Scalar.muli v7 c1_i32_1427
  let v1333 : BitVec 32 := Scalar.addi c0_i32_1428 v1332
  v1333.toNat
def k0_dev64 (d0 : Dev nD) : Nat :=
  let c0_i32_1435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1434 : BitVec 32 := 1#32
  let v1342 : BitVec 32 := Scalar.muli v5 c1_i32_1434
  let v1343 : BitVec 32 := Scalar.addi c0_i32_1435 v1342
  v1343.toNat
def k0_dev65 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1474 : BitVec 32 := 1#32
  let v1375 : BitVec 32 := Scalar.muli v5 c1_i32_1474
  let v1376 : BitVec 32 := Scalar.addi c0_i32_1475 v1375
  v1376.toNat
def k0_dev66 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1481 : BitVec 32 := 1#32
  let v1385 : BitVec 32 := Scalar.muli v7 c1_i32_1481
  let v1386 : BitVec 32 := Scalar.addi c0_i32_1482 v1385
  v1386.toNat
def k0_dev67 (d0 : Dev nD) : Nat :=
  let c0_i32_1523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1522 : BitVec 32 := 1#32
  let v1418 : BitVec 32 := Scalar.muli v7 c1_i32_1522
  let v1419 : BitVec 32 := Scalar.addi c0_i32_1523 v1418
  v1419.toNat
def k0_dev68 (d0 : Dev nD) : Nat :=
  let c0_i32_1530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1529 : BitVec 32 := 1#32
  let v1428 : BitVec 32 := Scalar.muli v5 c1_i32_1529
  let v1429 : BitVec 32 := Scalar.addi c0_i32_1530 v1428
  v1429.toNat
def k0_dev69 (d0 : Dev nD) : Nat :=
  let c0_i32_1571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1570 : BitVec 32 := 1#32
  let v1461 : BitVec 32 := Scalar.muli v5 c1_i32_1570
  let v1462 : BitVec 32 := Scalar.addi c0_i32_1571 v1461
  v1462.toNat
def k0_dev70 (d0 : Dev nD) : Nat :=
  let c0_i32_1578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1577 : BitVec 32 := 1#32
  let v1471 : BitVec 32 := Scalar.muli v7 c1_i32_1577
  let v1472 : BitVec 32 := Scalar.addi c0_i32_1578 v1471
  v1472.toNat
def k0_dev71 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1617 : BitVec 32 := 1#32
  let v1504 : BitVec 32 := Scalar.muli v7 c1_i32_1617
  let v1505 : BitVec 32 := Scalar.addi c0_i32_1618 v1504
  v1505.toNat
def k0_dev72 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1624 : BitVec 32 := 1#32
  let v1514 : BitVec 32 := Scalar.muli v5 c1_i32_1624
  let v1515 : BitVec 32 := Scalar.addi c0_i32_1625 v1514
  v1515.toNat
def k0_dev73 (d0 : Dev nD) : Nat :=
  let c0_i32_1665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1664 : BitVec 32 := 1#32
  let v1547 : BitVec 32 := Scalar.muli v5 c1_i32_1664
  let v1548 : BitVec 32 := Scalar.addi c0_i32_1665 v1547
  v1548.toNat
def k0_dev74 (d0 : Dev nD) : Nat :=
  let c0_i32_1672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1671 : BitVec 32 := 1#32
  let v1557 : BitVec 32 := Scalar.muli v7 c1_i32_1671
  let v1558 : BitVec 32 := Scalar.addi c0_i32_1672 v1557
  v1558.toNat
def k0_dev75 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1712 : BitVec 32 := 1#32
  let v1590 : BitVec 32 := Scalar.muli v7 c1_i32_1712
  let v1591 : BitVec 32 := Scalar.addi c0_i32_1713 v1590
  v1591.toNat
def k0_dev76 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1719 : BitVec 32 := 1#32
  let v1600 : BitVec 32 := Scalar.muli v5 c1_i32_1719
  let v1601 : BitVec 32 := Scalar.addi c0_i32_1720 v1600
  v1601.toNat
def k0_dev77 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1760 : BitVec 32 := 1#32
  let v1633 : BitVec 32 := Scalar.muli v5 c1_i32_1760
  let v1634 : BitVec 32 := Scalar.addi c0_i32_1761 v1633
  v1634.toNat
def k0_dev78 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1767 : BitVec 32 := 1#32
  let v1643 : BitVec 32 := Scalar.muli v7 c1_i32_1767
  let v1644 : BitVec 32 := Scalar.addi c0_i32_1768 v1643
  v1644.toNat
def k0_dev79 (d0 : Dev nD) : Nat :=
  let c0_i32_1808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1807 : BitVec 32 := 1#32
  let v1676 : BitVec 32 := Scalar.muli v7 c1_i32_1807
  let v1677 : BitVec 32 := Scalar.addi c0_i32_1808 v1676
  v1677.toNat
def k0_dev80 (d0 : Dev nD) : Nat :=
  let c0_i32_1815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1814 : BitVec 32 := 1#32
  let v1686 : BitVec 32 := Scalar.muli v5 c1_i32_1814
  let v1687 : BitVec 32 := Scalar.addi c0_i32_1815 v1686
  v1687.toNat
def k0_dev81 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1854 : BitVec 32 := 1#32
  let v1719 : BitVec 32 := Scalar.muli v5 c1_i32_1854
  let v1720 : BitVec 32 := Scalar.addi c0_i32_1855 v1719
  v1720.toNat
def k0_dev82 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1861 : BitVec 32 := 1#32
  let v1729 : BitVec 32 := Scalar.muli v7 c1_i32_1861
  let v1730 : BitVec 32 := Scalar.addi c0_i32_1862 v1729
  v1730.toNat
def k0_dev83 (d0 : Dev nD) : Nat :=
  let c0_i32_1903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1902 : BitVec 32 := 1#32
  let v1762 : BitVec 32 := Scalar.muli v7 c1_i32_1902
  let v1763 : BitVec 32 := Scalar.addi c0_i32_1903 v1762
  v1763.toNat
def k0_dev84 (d0 : Dev nD) : Nat :=
  let c0_i32_1910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1909 : BitVec 32 := 1#32
  let v1772 : BitVec 32 := Scalar.muli v5 c1_i32_1909
  let v1773 : BitVec 32 := Scalar.addi c0_i32_1910 v1772
  v1773.toNat
def k0_dev85 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1950 : BitVec 32 := 1#32
  let v1805 : BitVec 32 := Scalar.muli v5 c1_i32_1950
  let v1806 : BitVec 32 := Scalar.addi c0_i32_1951 v1805
  v1806.toNat
def k0_dev86 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1957 : BitVec 32 := 1#32
  let v1815 : BitVec 32 := Scalar.muli v7 c1_i32_1957
  let v1816 : BitVec 32 := Scalar.addi c0_i32_1958 v1815
  v1816.toNat
def k0_dev87 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1997 : BitVec 32 := 1#32
  let v1848 : BitVec 32 := Scalar.muli v7 c1_i32_1997
  let v1849 : BitVec 32 := Scalar.addi c0_i32_1998 v1848
  v1849.toNat
def k0_dev88 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2004 : BitVec 32 := 1#32
  let v1858 : BitVec 32 := Scalar.muli v5 c1_i32_2004
  let v1859 : BitVec 32 := Scalar.addi c0_i32_2005 v1858
  v1859.toNat
def k0_dev89 (d0 : Dev nD) : Nat :=
  let c0_i32_2045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2044 : BitVec 32 := 1#32
  let v1891 : BitVec 32 := Scalar.muli v5 c1_i32_2044
  let v1892 : BitVec 32 := Scalar.addi c0_i32_2045 v1891
  v1892.toNat
def k0_dev90 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2051 : BitVec 32 := 1#32
  let v1901 : BitVec 32 := Scalar.muli v7 c1_i32_2051
  let v1902 : BitVec 32 := Scalar.addi c0_i32_2052 v1901
  v1902.toNat
def k0_dev91 (d0 : Dev nD) : Nat :=
  let c0_i32_2093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2092 : BitVec 32 := 1#32
  let v1934 : BitVec 32 := Scalar.muli v7 c1_i32_2092
  let v1935 : BitVec 32 := Scalar.addi c0_i32_2093 v1934
  v1935.toNat
def k0_dev92 (d0 : Dev nD) : Nat :=
  let c0_i32_2100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2099 : BitVec 32 := 1#32
  let v1944 : BitVec 32 := Scalar.muli v5 c1_i32_2099
  let v1945 : BitVec 32 := Scalar.addi c0_i32_2100 v1944
  v1945.toNat
def k0_dev93 (d0 : Dev nD) : Nat :=
  let c0_i32_2141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2140 : BitVec 32 := 1#32
  let v1977 : BitVec 32 := Scalar.muli v5 c1_i32_2140
  let v1978 : BitVec 32 := Scalar.addi c0_i32_2141 v1977
  v1978.toNat
def k0_dev94 (d0 : Dev nD) : Nat :=
  let c0_i32_2148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2147 : BitVec 32 := 1#32
  let v1987 : BitVec 32 := Scalar.muli v7 c1_i32_2147
  let v1988 : BitVec 32 := Scalar.addi c0_i32_2148 v1987
  v1988.toNat
def k0_dev95 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2187 : BitVec 32 := 1#32
  let v2020 : BitVec 32 := Scalar.muli v7 c1_i32_2187
  let v2021 : BitVec 32 := Scalar.addi c0_i32_2188 v2020
  v2021.toNat
def k0_dev96 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2194 : BitVec 32 := 1#32
  let v2030 : BitVec 32 := Scalar.muli v5 c1_i32_2194
  let v2031 : BitVec 32 := Scalar.addi c0_i32_2195 v2030
  v2031.toNat
def k0_dev97 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2234 : BitVec 32 := 1#32
  let v2063 : BitVec 32 := Scalar.muli v5 c1_i32_2234
  let v2064 : BitVec 32 := Scalar.addi c0_i32_2235 v2063
  v2064.toNat
def k0_dev98 (d0 : Dev nD) : Nat :=
  let c0_i32_2242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2241 : BitVec 32 := 1#32
  let v2073 : BitVec 32 := Scalar.muli v7 c1_i32_2241
  let v2074 : BitVec 32 := Scalar.addi c0_i32_2242 v2073
  v2074.toNat
def k0_dev99 (d0 : Dev nD) : Nat :=
  let c0_i32_2283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2282 : BitVec 32 := 1#32
  let v2106 : BitVec 32 := Scalar.muli v7 c1_i32_2282
  let v2107 : BitVec 32 := Scalar.addi c0_i32_2283 v2106
  v2107.toNat
def k0_dev100 (d0 : Dev nD) : Nat :=
  let c0_i32_2290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2289 : BitVec 32 := 1#32
  let v2116 : BitVec 32 := Scalar.muli v5 c1_i32_2289
  let v2117 : BitVec 32 := Scalar.addi c0_i32_2290 v2116
  v2117.toNat
def k0_dev101 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2330 : BitVec 32 := 1#32
  let v2149 : BitVec 32 := Scalar.muli v5 c1_i32_2330
  let v2150 : BitVec 32 := Scalar.addi c0_i32_2331 v2149
  v2150.toNat
def k0_dev102 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2337 : BitVec 32 := 1#32
  let v2159 : BitVec 32 := Scalar.muli v7 c1_i32_2337
  let v2160 : BitVec 32 := Scalar.addi c0_i32_2338 v2159
  v2160.toNat
def k0_dev103 (d0 : Dev nD) : Nat :=
  let c0_i32_2378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2377 : BitVec 32 := 1#32
  let v2192 : BitVec 32 := Scalar.muli v7 c1_i32_2377
  let v2193 : BitVec 32 := Scalar.addi c0_i32_2378 v2192
  v2193.toNat
def k0_dev104 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2384 : BitVec 32 := 1#32
  let v2202 : BitVec 32 := Scalar.muli v5 c1_i32_2384
  let v2203 : BitVec 32 := Scalar.addi c0_i32_2385 v2202
  v2203.toNat
def k0_dev105 (d0 : Dev nD) : Nat :=
  let c0_i32_2425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2424 : BitVec 32 := 1#32
  let v2235 : BitVec 32 := Scalar.muli v5 c1_i32_2424
  let v2236 : BitVec 32 := Scalar.addi c0_i32_2425 v2235
  v2236.toNat
def k0_dev106 (d0 : Dev nD) : Nat :=
  let c0_i32_2432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2431 : BitVec 32 := 1#32
  let v2245 : BitVec 32 := Scalar.muli v7 c1_i32_2431
  let v2246 : BitVec 32 := Scalar.addi c0_i32_2432 v2245
  v2246.toNat
def k0_dev107 (d0 : Dev nD) : Nat :=
  let c0_i32_2473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2472 : BitVec 32 := 1#32
  let v2278 : BitVec 32 := Scalar.muli v7 c1_i32_2472
  let v2279 : BitVec 32 := Scalar.addi c0_i32_2473 v2278
  v2279.toNat
def k0_dev108 (d0 : Dev nD) : Nat :=
  let c0_i32_2480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2479 : BitVec 32 := 1#32
  let v2288 : BitVec 32 := Scalar.muli v5 c1_i32_2479
  let v2289 : BitVec 32 := Scalar.addi c0_i32_2480 v2288
  v2289.toNat
def k0_dev109 (d0 : Dev nD) : Nat :=
  let c0_i32_2521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2520 : BitVec 32 := 1#32
  let v2321 : BitVec 32 := Scalar.muli v5 c1_i32_2520
  let v2322 : BitVec 32 := Scalar.addi c0_i32_2521 v2321
  v2322.toNat
def k0_dev110 (d0 : Dev nD) : Nat :=
  let c0_i32_2528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2527 : BitVec 32 := 1#32
  let v2331 : BitVec 32 := Scalar.muli v7 c1_i32_2527
  let v2332 : BitVec 32 := Scalar.addi c0_i32_2528 v2331
  v2332.toNat
def k0_dev111 (d0 : Dev nD) : Nat :=
  let c0_i32_2568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2567 : BitVec 32 := 1#32
  let v2364 : BitVec 32 := Scalar.muli v7 c1_i32_2567
  let v2365 : BitVec 32 := Scalar.addi c0_i32_2568 v2364
  v2365.toNat
def k0_dev112 (d0 : Dev nD) : Nat :=
  let c0_i32_2575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2574 : BitVec 32 := 1#32
  let v2374 : BitVec 32 := Scalar.muli v5 c1_i32_2574
  let v2375 : BitVec 32 := Scalar.addi c0_i32_2575 v2374
  v2375.toNat
def k0_dev113 (d0 : Dev nD) : Nat :=
  let c0_i32_2615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2614 : BitVec 32 := 1#32
  let v2407 : BitVec 32 := Scalar.muli v5 c1_i32_2614
  let v2408 : BitVec 32 := Scalar.addi c0_i32_2615 v2407
  v2408.toNat
def k0_dev114 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2621 : BitVec 32 := 1#32
  let v2417 : BitVec 32 := Scalar.muli v7 c1_i32_2621
  let v2418 : BitVec 32 := Scalar.addi c0_i32_2622 v2417
  v2418.toNat
def k0_dev115 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2662 : BitVec 32 := 1#32
  let v2450 : BitVec 32 := Scalar.muli v7 c1_i32_2662
  let v2451 : BitVec 32 := Scalar.addi c0_i32_2663 v2450
  v2451.toNat
def k0_dev116 (d0 : Dev nD) : Nat :=
  let c0_i32_2670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2669 : BitVec 32 := 1#32
  let v2460 : BitVec 32 := Scalar.muli v5 c1_i32_2669
  let v2461 : BitVec 32 := Scalar.addi c0_i32_2670 v2460
  v2461.toNat
def k0_dev117 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2710 : BitVec 32 := 1#32
  let v2493 : BitVec 32 := Scalar.muli v5 c1_i32_2710
  let v2494 : BitVec 32 := Scalar.addi c0_i32_2711 v2493
  v2494.toNat
def k0_dev118 (d0 : Dev nD) : Nat :=
  let c0_i32_2718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2717 : BitVec 32 := 1#32
  let v2503 : BitVec 32 := Scalar.muli v7 c1_i32_2717
  let v2504 : BitVec 32 := Scalar.addi c0_i32_2718 v2503
  v2504.toNat
def k0_dev119 (d0 : Dev nD) : Nat :=
  let c0_i32_2762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2761 : BitVec 32 := 1#32
  let v2551 : BitVec 32 := Scalar.muli v7 c1_i32_2761
  let v2552 : BitVec 32 := Scalar.addi c0_i32_2762 v2551
  v2552.toNat
def k0_dev120 (d0 : Dev nD) : Nat :=
  let c0_i32_2769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2768 : BitVec 32 := 1#32
  let v2561 : BitVec 32 := Scalar.muli v5 c1_i32_2768
  let v2562 : BitVec 32 := Scalar.addi c0_i32_2769 v2561
  v2562.toNat
def k0_off3 (d0 : Dev nD) (c_m15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2719 : BitVec 32 := 32#32
  let v2505 : BitVec 32 := Scalar.addi v2 c32_i32_2719
  let v2506 : BitVec 32 := Scalar.addi v2505 c_m15_i32
  let c16_i32_2720 : BitVec 32 := 16#32
  let v2507 : BitVec 32 := Scalar.remsi v2506 c16_i32_2720
  let c256_i32_2773 : BitVec 32 := 256#32
  let v2566 : BitVec 32 := Scalar.muli v2507 c256_i32_2773
  let c0_i32_2776 : BitVec 32 := 0#32
  ![v2566.toNat, 0]
def k0_off3_at (r : Fin 16) : BitVec 32 :=
  if r.val < 8 then
    if r.val < 4 then
      if r.val < 2 then
        if r.val < 1 then
          4294967281#32
        else
          0#32
      else
        if r.val < 3 then
          4294967295#32
        else
          4294967294#32
    else
      if r.val < 6 then
        if r.val < 5 then
          4294967293#32
        else
          4294967292#32
      else
        if r.val < 7 then
          4294967291#32
        else
          4294967290#32
  else
    if r.val < 12 then
      if r.val < 10 then
        if r.val < 9 then
          4294967289#32
        else
          4294967288#32
      else
        if r.val < 11 then
          4294967287#32
        else
          4294967286#32
    else
      if r.val < 14 then
        if r.val < 13 then
          4294967285#32
        else
          4294967284#32
      else
        if r.val < 15 then
          4294967283#32
        else
          4294967282#32
def k0_dev121 (d0 : Dev nD) : Nat :=
  let c0_i32_2822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2821 : BitVec 32 := 1#32
  let v2618 : BitVec 32 := Scalar.muli v5 c1_i32_2821
  let v2619 : BitVec 32 := Scalar.addi c0_i32_2822 v2618
  v2619.toNat
def k0_dev122 (d0 : Dev nD) : Nat :=
  let c0_i32_2829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2828 : BitVec 32 := 1#32
  let v2628 : BitVec 32 := Scalar.muli v7 c1_i32_2828
  let v2629 : BitVec 32 := Scalar.addi c0_i32_2829 v2628
  v2629.toNat
def k0_off4 (d0 : Dev nD) (c15_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2779 : BitVec 32 := 32#32
  let v2572 : BitVec 32 := Scalar.addi v2 c32_i32_2779
  let v2573 : BitVec 32 := Scalar.addi v2572 c15_i32
  let c16_i32_2780 : BitVec 32 := 16#32
  let v2574 : BitVec 32 := Scalar.remsi v2573 c16_i32_2780
  let c256_i32_2833 : BitVec 32 := 256#32
  let v2633 : BitVec 32 := Scalar.muli v2574 c256_i32_2833
  let c4096_i32 : BitVec 32 := 4096#32
  ![v2633.toNat, 4096]
def k0_dev123 (d0 : Dev nD) : Nat :=
  let c0_i32_2882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2881 : BitVec 32 := 1#32
  let v2685 : BitVec 32 := Scalar.muli v7 c1_i32_2881
  let v2686 : BitVec 32 := Scalar.addi c0_i32_2882 v2685
  v2686.toNat
def k0_dev124 (d0 : Dev nD) : Nat :=
  let c0_i32_2889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2888 : BitVec 32 := 1#32
  let v2695 : BitVec 32 := Scalar.muli v5 c1_i32_2888
  let v2696 : BitVec 32 := Scalar.addi c0_i32_2889 v2695
  v2696.toNat
def k0_off5 (d0 : Dev nD) (c_m15_i32_2839 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2838 : BitVec 32 := 32#32
  let v2639 : BitVec 32 := Scalar.addi v2 c32_i32_2838
  let v2640 : BitVec 32 := Scalar.addi v2639 c_m15_i32_2839
  let c16_i32_2840 : BitVec 32 := 16#32
  let v2641 : BitVec 32 := Scalar.remsi v2640 c16_i32_2840
  let c256_i32_2893 : BitVec 32 := 256#32
  let v2700 : BitVec 32 := Scalar.muli v2641 c256_i32_2893
  let c2048_i32 : BitVec 32 := 2048#32
  ![v2700.toNat, 2048]
def k0_off5_at (r : Fin 16) : BitVec 32 :=
  if r.val < 8 then
    if r.val < 4 then
      if r.val < 2 then
        if r.val < 1 then
          4294967281#32
        else
          0#32
      else
        if r.val < 3 then
          4294967295#32
        else
          4294967294#32
    else
      if r.val < 6 then
        if r.val < 5 then
          4294967293#32
        else
          4294967292#32
      else
        if r.val < 7 then
          4294967291#32
        else
          4294967290#32
  else
    if r.val < 12 then
      if r.val < 10 then
        if r.val < 9 then
          4294967289#32
        else
          4294967288#32
      else
        if r.val < 11 then
          4294967287#32
        else
          4294967286#32
    else
      if r.val < 14 then
        if r.val < 13 then
          4294967285#32
        else
          4294967284#32
      else
        if r.val < 15 then
          4294967283#32
        else
          4294967282#32
def k0_dev125 (d0 : Dev nD) : Nat :=
  let c0_i32_2942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2941 : BitVec 32 := 1#32
  let v2752 : BitVec 32 := Scalar.muli v5 c1_i32_2941
  let v2753 : BitVec 32 := Scalar.addi c0_i32_2942 v2752
  v2753.toNat
def k0_dev126 (d0 : Dev nD) : Nat :=
  let c0_i32_2949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2948 : BitVec 32 := 1#32
  let v2762 : BitVec 32 := Scalar.muli v7 c1_i32_2948
  let v2763 : BitVec 32 := Scalar.addi c0_i32_2949 v2762
  v2763.toNat
def k0_off6 (d0 : Dev nD) (c15_i32_2899 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_2898 : BitVec 32 := 32#32
  let v2706 : BitVec 32 := Scalar.addi v2 c32_i32_2898
  let v2707 : BitVec 32 := Scalar.addi v2706 c15_i32_2899
  let c16_i32_2900 : BitVec 32 := 16#32
  let v2708 : BitVec 32 := Scalar.remsi v2707 c16_i32_2900
  let c256_i32_2953 : BitVec 32 := 256#32
  let v2767 : BitVec 32 := Scalar.muli v2708 c256_i32_2953
  let c6144_i32 : BitVec 32 := 6144#32
  ![v2767.toNat, 6144]
def k0_dev127 (d0 : Dev nD) : Nat :=
  let c0_i32_2987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2986 : BitVec 32 := 1#32
  let v2790 : BitVec 32 := Scalar.muli v7 c1_i32_2986
  let v2791 : BitVec 32 := Scalar.addi c0_i32_2987 v2790
  v2791.toNat
def k0_dev128 (d0 : Dev nD) : Nat :=
  let c0_i32_3033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3032 : BitVec 32 := 1#32
  let v2829 : BitVec 32 := Scalar.muli v5 c1_i32_3032
  let v2830 : BitVec 32 := Scalar.addi c0_i32_3033 v2829
  v2830.toNat
def k0_dev129 (d0 : Dev nD) : Nat :=
  let c0_i32_3079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3078 : BitVec 32 := 1#32
  let v2868 : BitVec 32 := Scalar.muli v7 c1_i32_3078
  let v2869 : BitVec 32 := Scalar.addi c0_i32_3079 v2868
  v2869.toNat
def k0_dev130 (d0 : Dev nD) : Nat :=
  let c0_i32_3125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3124 : BitVec 32 := 1#32
  let v2907 : BitVec 32 := Scalar.muli v5 c1_i32_3124
  let v2908 : BitVec 32 := Scalar.addi c0_i32_3125 v2907
  v2908.toNat
def k0_dev131 (d0 : Dev nD) : Nat :=
  let c0_i32_3171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3170 : BitVec 32 := 1#32
  let v2946 : BitVec 32 := Scalar.muli v7 c1_i32_3170
  let v2947 : BitVec 32 := Scalar.addi c0_i32_3171 v2946
  v2947.toNat
def k0_dev132 (d0 : Dev nD) : Nat :=
  let c0_i32_3178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3177 : BitVec 32 := 1#32
  let v2956 : BitVec 32 := Scalar.muli v5 c1_i32_3177
  let v2957 : BitVec 32 := Scalar.addi c0_i32_3178 v2956
  v2957.toNat
def k0_dev133 (d0 : Dev nD) : Nat :=
  let c0_i32_3225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3224 : BitVec 32 := 1#32
  let v2992 : BitVec 32 := Scalar.muli v5 c1_i32_3224
  let v2993 : BitVec 32 := Scalar.addi c0_i32_3225 v2992
  v2993.toNat
def k0_dev134 (d0 : Dev nD) : Nat :=
  let c0_i32_3232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3231 : BitVec 32 := 1#32
  let v3002 : BitVec 32 := Scalar.muli v7 c1_i32_3231
  let v3003 : BitVec 32 := Scalar.addi c0_i32_3232 v3002
  v3003.toNat
def k0_dev135 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3278 : BitVec 32 := 1#32
  let v3038 : BitVec 32 := Scalar.muli v7 c1_i32_3278
  let v3039 : BitVec 32 := Scalar.addi c0_i32_3279 v3038
  v3039.toNat
def k0_dev136 (d0 : Dev nD) : Nat :=
  let c0_i32_3286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3285 : BitVec 32 := 1#32
  let v3048 : BitVec 32 := Scalar.muli v5 c1_i32_3285
  let v3049 : BitVec 32 := Scalar.addi c0_i32_3286 v3048
  v3049.toNat
def k0_dev137 (d0 : Dev nD) : Nat :=
  let c0_i32_3333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3332 : BitVec 32 := 1#32
  let v3084 : BitVec 32 := Scalar.muli v5 c1_i32_3332
  let v3085 : BitVec 32 := Scalar.addi c0_i32_3333 v3084
  v3085.toNat
def k0_dev138 (d0 : Dev nD) : Nat :=
  let c0_i32_3340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3339 : BitVec 32 := 1#32
  let v3094 : BitVec 32 := Scalar.muli v7 c1_i32_3339
  let v3095 : BitVec 32 := Scalar.addi c0_i32_3340 v3094
  v3095.toNat
def k0_dev139 (d0 : Dev nD) : Nat :=
  let c0_i32_3387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3386 : BitVec 32 := 1#32
  let v3130 : BitVec 32 := Scalar.muli v7 c1_i32_3386
  let v3131 : BitVec 32 := Scalar.addi c0_i32_3387 v3130
  v3131.toNat
def k0_dev140 (d0 : Dev nD) : Nat :=
  let c0_i32_3394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3393 : BitVec 32 := 1#32
  let v3140 : BitVec 32 := Scalar.muli v5 c1_i32_3393
  let v3141 : BitVec 32 := Scalar.addi c0_i32_3394 v3140
  v3141.toNat
def k0_dev141 (d0 : Dev nD) : Nat :=
  let c0_i32_3441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3440 : BitVec 32 := 1#32
  let v3176 : BitVec 32 := Scalar.muli v5 c1_i32_3440
  let v3177 : BitVec 32 := Scalar.addi c0_i32_3441 v3176
  v3177.toNat
def k0_dev142 (d0 : Dev nD) : Nat :=
  let c0_i32_3448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3447 : BitVec 32 := 1#32
  let v3186 : BitVec 32 := Scalar.muli v7 c1_i32_3447
  let v3187 : BitVec 32 := Scalar.addi c0_i32_3448 v3186
  v3187.toNat
def k0_dev143 (d0 : Dev nD) : Nat :=
  let c0_i32_3495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3494 : BitVec 32 := 1#32
  let v3222 : BitVec 32 := Scalar.muli v7 c1_i32_3494
  let v3223 : BitVec 32 := Scalar.addi c0_i32_3495 v3222
  v3223.toNat
def k0_dev144 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3501 : BitVec 32 := 1#32
  let v3232 : BitVec 32 := Scalar.muli v5 c1_i32_3501
  let v3233 : BitVec 32 := Scalar.addi c0_i32_3502 v3232
  v3233.toNat
def k0_dev145 (d0 : Dev nD) : Nat :=
  let c0_i32_3549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3548 : BitVec 32 := 1#32
  let v3268 : BitVec 32 := Scalar.muli v5 c1_i32_3548
  let v3269 : BitVec 32 := Scalar.addi c0_i32_3549 v3268
  v3269.toNat
def k0_dev146 (d0 : Dev nD) : Nat :=
  let c0_i32_3556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3555 : BitVec 32 := 1#32
  let v3278 : BitVec 32 := Scalar.muli v7 c1_i32_3555
  let v3279 : BitVec 32 := Scalar.addi c0_i32_3556 v3278
  v3279.toNat
def k0_dev147 (d0 : Dev nD) : Nat :=
  let c0_i32_3603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3602 : BitVec 32 := 1#32
  let v3314 : BitVec 32 := Scalar.muli v7 c1_i32_3602
  let v3315 : BitVec 32 := Scalar.addi c0_i32_3603 v3314
  v3315.toNat
def k0_dev148 (d0 : Dev nD) : Nat :=
  let c0_i32_3610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3609 : BitVec 32 := 1#32
  let v3324 : BitVec 32 := Scalar.muli v5 c1_i32_3609
  let v3325 : BitVec 32 := Scalar.addi c0_i32_3610 v3324
  v3325.toNat
def k0_dev149 (d0 : Dev nD) : Nat :=
  let c0_i32_3657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3656 : BitVec 32 := 1#32
  let v3360 : BitVec 32 := Scalar.muli v5 c1_i32_3656
  let v3361 : BitVec 32 := Scalar.addi c0_i32_3657 v3360
  v3361.toNat
def k0_dev150 (d0 : Dev nD) : Nat :=
  let c0_i32_3664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3663 : BitVec 32 := 1#32
  let v3370 : BitVec 32 := Scalar.muli v7 c1_i32_3663
  let v3371 : BitVec 32 := Scalar.addi c0_i32_3664 v3370
  v3371.toNat
def k0_dev151 (d0 : Dev nD) : Nat :=
  let c0_i32_3711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3710 : BitVec 32 := 1#32
  let v3406 : BitVec 32 := Scalar.muli v7 c1_i32_3710
  let v3407 : BitVec 32 := Scalar.addi c0_i32_3711 v3406
  v3407.toNat
def k0_dev152 (d0 : Dev nD) : Nat :=
  let c0_i32_3718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3717 : BitVec 32 := 1#32
  let v3416 : BitVec 32 := Scalar.muli v5 c1_i32_3717
  let v3417 : BitVec 32 := Scalar.addi c0_i32_3718 v3416
  v3417.toNat
def k0_dev153 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3764 : BitVec 32 := 1#32
  let v3452 : BitVec 32 := Scalar.muli v5 c1_i32_3764
  let v3453 : BitVec 32 := Scalar.addi c0_i32_3765 v3452
  v3453.toNat
def k0_dev154 (d0 : Dev nD) : Nat :=
  let c0_i32_3772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3771 : BitVec 32 := 1#32
  let v3462 : BitVec 32 := Scalar.muli v7 c1_i32_3771
  let v3463 : BitVec 32 := Scalar.addi c0_i32_3772 v3462
  v3463.toNat
def k0_dev155 (d0 : Dev nD) : Nat :=
  let c0_i32_3819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3818 : BitVec 32 := 1#32
  let v3498 : BitVec 32 := Scalar.muli v7 c1_i32_3818
  let v3499 : BitVec 32 := Scalar.addi c0_i32_3819 v3498
  v3499.toNat
def k0_dev156 (d0 : Dev nD) : Nat :=
  let c0_i32_3826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3825 : BitVec 32 := 1#32
  let v3508 : BitVec 32 := Scalar.muli v5 c1_i32_3825
  let v3509 : BitVec 32 := Scalar.addi c0_i32_3826 v3508
  v3509.toNat
def k0_dev157 (d0 : Dev nD) : Nat :=
  let c0_i32_3873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3872 : BitVec 32 := 1#32
  let v3544 : BitVec 32 := Scalar.muli v5 c1_i32_3872
  let v3545 : BitVec 32 := Scalar.addi c0_i32_3873 v3544
  v3545.toNat
def k0_dev158 (d0 : Dev nD) : Nat :=
  let c0_i32_3880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3879 : BitVec 32 := 1#32
  let v3554 : BitVec 32 := Scalar.muli v7 c1_i32_3879
  let v3555 : BitVec 32 := Scalar.addi c0_i32_3880 v3554
  v3555.toNat
def k0_dev159 (d0 : Dev nD) : Nat :=
  let c0_i32_3927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3926 : BitVec 32 := 1#32
  let v3590 : BitVec 32 := Scalar.muli v7 c1_i32_3926
  let v3591 : BitVec 32 := Scalar.addi c0_i32_3927 v3590
  v3591.toNat
def k0_dev160 (d0 : Dev nD) : Nat :=
  let c0_i32_3934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3933 : BitVec 32 := 1#32
  let v3600 : BitVec 32 := Scalar.muli v5 c1_i32_3933
  let v3601 : BitVec 32 := Scalar.addi c0_i32_3934 v3600
  v3601.toNat
def k0_dev161 (d0 : Dev nD) : Nat :=
  let c0_i32_3981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3980 : BitVec 32 := 1#32
  let v3636 : BitVec 32 := Scalar.muli v5 c1_i32_3980
  let v3637 : BitVec 32 := Scalar.addi c0_i32_3981 v3636
  v3637.toNat
def k0_dev162 (d0 : Dev nD) : Nat :=
  let c0_i32_3988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3987 : BitVec 32 := 1#32
  let v3646 : BitVec 32 := Scalar.muli v7 c1_i32_3987
  let v3647 : BitVec 32 := Scalar.addi c0_i32_3988 v3646
  v3647.toNat
def k0_dev163 (d0 : Dev nD) : Nat :=
  let c0_i32_4035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4034 : BitVec 32 := 1#32
  let v3682 : BitVec 32 := Scalar.muli v7 c1_i32_4034
  let v3683 : BitVec 32 := Scalar.addi c0_i32_4035 v3682
  v3683.toNat
def k0_dev164 (d0 : Dev nD) : Nat :=
  let c0_i32_4042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4041 : BitVec 32 := 1#32
  let v3692 : BitVec 32 := Scalar.muli v5 c1_i32_4041
  let v3693 : BitVec 32 := Scalar.addi c0_i32_4042 v3692
  v3693.toNat
def k0_dev165 (d0 : Dev nD) : Nat :=
  let c0_i32_4089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4088 : BitVec 32 := 1#32
  let v3728 : BitVec 32 := Scalar.muli v5 c1_i32_4088
  let v3729 : BitVec 32 := Scalar.addi c0_i32_4089 v3728
  v3729.toNat
def k0_dev166 (d0 : Dev nD) : Nat :=
  let c0_i32_4096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4095 : BitVec 32 := 1#32
  let v3738 : BitVec 32 := Scalar.muli v7 c1_i32_4095
  let v3739 : BitVec 32 := Scalar.addi c0_i32_4096 v3738
  v3739.toNat
def k0_dev167 (d0 : Dev nD) : Nat :=
  let c0_i32_4143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4142 : BitVec 32 := 1#32
  let v3774 : BitVec 32 := Scalar.muli v7 c1_i32_4142
  let v3775 : BitVec 32 := Scalar.addi c0_i32_4143 v3774
  v3775.toNat
def k0_dev168 (d0 : Dev nD) : Nat :=
  let c0_i32_4150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4149 : BitVec 32 := 1#32
  let v3784 : BitVec 32 := Scalar.muli v5 c1_i32_4149
  let v3785 : BitVec 32 := Scalar.addi c0_i32_4150 v3784
  v3785.toNat
def k0_dev169 (d0 : Dev nD) : Nat :=
  let c0_i32_4197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4196 : BitVec 32 := 1#32
  let v3820 : BitVec 32 := Scalar.muli v5 c1_i32_4196
  let v3821 : BitVec 32 := Scalar.addi c0_i32_4197 v3820
  v3821.toNat
def k0_dev170 (d0 : Dev nD) : Nat :=
  let c0_i32_4204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4203 : BitVec 32 := 1#32
  let v3830 : BitVec 32 := Scalar.muli v7 c1_i32_4203
  let v3831 : BitVec 32 := Scalar.addi c0_i32_4204 v3830
  v3831.toNat
def k0_dev171 (d0 : Dev nD) : Nat :=
  let c0_i32_4251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4250 : BitVec 32 := 1#32
  let v3866 : BitVec 32 := Scalar.muli v7 c1_i32_4250
  let v3867 : BitVec 32 := Scalar.addi c0_i32_4251 v3866
  v3867.toNat
def k0_dev172 (d0 : Dev nD) : Nat :=
  let c0_i32_4258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4257 : BitVec 32 := 1#32
  let v3876 : BitVec 32 := Scalar.muli v5 c1_i32_4257
  let v3877 : BitVec 32 := Scalar.addi c0_i32_4258 v3876
  v3877.toNat
def k0_dev173 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4304 : BitVec 32 := 1#32
  let v3912 : BitVec 32 := Scalar.muli v5 c1_i32_4304
  let v3913 : BitVec 32 := Scalar.addi c0_i32_4305 v3912
  v3913.toNat
def k0_dev174 (d0 : Dev nD) : Nat :=
  let c0_i32_4312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4311 : BitVec 32 := 1#32
  let v3922 : BitVec 32 := Scalar.muli v7 c1_i32_4311
  let v3923 : BitVec 32 := Scalar.addi c0_i32_4312 v3922
  v3923.toNat
def k0_dev175 (d0 : Dev nD) : Nat :=
  let c0_i32_4359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4358 : BitVec 32 := 1#32
  let v3958 : BitVec 32 := Scalar.muli v7 c1_i32_4358
  let v3959 : BitVec 32 := Scalar.addi c0_i32_4359 v3958
  v3959.toNat
def k0_dev176 (d0 : Dev nD) : Nat :=
  let c0_i32_4366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4365 : BitVec 32 := 1#32
  let v3968 : BitVec 32 := Scalar.muli v5 c1_i32_4365
  let v3969 : BitVec 32 := Scalar.addi c0_i32_4366 v3968
  v3969.toNat
def k0_dev177 (d0 : Dev nD) : Nat :=
  let c0_i32_4413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4412 : BitVec 32 := 1#32
  let v4004 : BitVec 32 := Scalar.muli v5 c1_i32_4412
  let v4005 : BitVec 32 := Scalar.addi c0_i32_4413 v4004
  v4005.toNat
def k0_dev178 (d0 : Dev nD) : Nat :=
  let c0_i32_4420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4419 : BitVec 32 := 1#32
  let v4014 : BitVec 32 := Scalar.muli v7 c1_i32_4419
  let v4015 : BitVec 32 := Scalar.addi c0_i32_4420 v4014
  v4015.toNat
def k0_dev179 (d0 : Dev nD) : Nat :=
  let c0_i32_4467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4466 : BitVec 32 := 1#32
  let v4050 : BitVec 32 := Scalar.muli v7 c1_i32_4466
  let v4051 : BitVec 32 := Scalar.addi c0_i32_4467 v4050
  v4051.toNat
def k0_dev180 (d0 : Dev nD) : Nat :=
  let c0_i32_4474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4473 : BitVec 32 := 1#32
  let v4060 : BitVec 32 := Scalar.muli v5 c1_i32_4473
  let v4061 : BitVec 32 := Scalar.addi c0_i32_4474 v4060
  v4061.toNat
def k0_dev181 (d0 : Dev nD) : Nat :=
  let c0_i32_4521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4520 : BitVec 32 := 1#32
  let v4096 : BitVec 32 := Scalar.muli v5 c1_i32_4520
  let v4097 : BitVec 32 := Scalar.addi c0_i32_4521 v4096
  v4097.toNat
def k0_dev182 (d0 : Dev nD) : Nat :=
  let c0_i32_4528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4527 : BitVec 32 := 1#32
  let v4106 : BitVec 32 := Scalar.muli v7 c1_i32_4527
  let v4107 : BitVec 32 := Scalar.addi c0_i32_4528 v4106
  v4107.toNat
def k0_dev183 (d0 : Dev nD) : Nat :=
  let c0_i32_4575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4574 : BitVec 32 := 1#32
  let v4142 : BitVec 32 := Scalar.muli v7 c1_i32_4574
  let v4143 : BitVec 32 := Scalar.addi c0_i32_4575 v4142
  v4143.toNat
def k0_dev184 (d0 : Dev nD) : Nat :=
  let c0_i32_4582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4581 : BitVec 32 := 1#32
  let v4152 : BitVec 32 := Scalar.muli v5 c1_i32_4581
  let v4153 : BitVec 32 := Scalar.addi c0_i32_4582 v4152
  v4153.toNat
def k0_dev185 (d0 : Dev nD) : Nat :=
  let c0_i32_4629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4628 : BitVec 32 := 1#32
  let v4188 : BitVec 32 := Scalar.muli v5 c1_i32_4628
  let v4189 : BitVec 32 := Scalar.addi c0_i32_4629 v4188
  v4189.toNat
def k0_dev186 (d0 : Dev nD) : Nat :=
  let c0_i32_4636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4635 : BitVec 32 := 1#32
  let v4198 : BitVec 32 := Scalar.muli v7 c1_i32_4635
  let v4199 : BitVec 32 := Scalar.addi c0_i32_4636 v4198
  v4199.toNat
def k0_dev187 (d0 : Dev nD) : Nat :=
  let c0_i32_4683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4682 : BitVec 32 := 1#32
  let v4234 : BitVec 32 := Scalar.muli v7 c1_i32_4682
  let v4235 : BitVec 32 := Scalar.addi c0_i32_4683 v4234
  v4235.toNat
def k0_dev188 (d0 : Dev nD) : Nat :=
  let c0_i32_4690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4689 : BitVec 32 := 1#32
  let v4244 : BitVec 32 := Scalar.muli v5 c1_i32_4689
  let v4245 : BitVec 32 := Scalar.addi c0_i32_4690 v4244
  v4245.toNat
def k0_dev189 (d0 : Dev nD) : Nat :=
  let c0_i32_4737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4736 : BitVec 32 := 1#32
  let v4280 : BitVec 32 := Scalar.muli v5 c1_i32_4736
  let v4281 : BitVec 32 := Scalar.addi c0_i32_4737 v4280
  v4281.toNat
def k0_dev190 (d0 : Dev nD) : Nat :=
  let c0_i32_4744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4743 : BitVec 32 := 1#32
  let v4290 : BitVec 32 := Scalar.muli v7 c1_i32_4743
  let v4291 : BitVec 32 := Scalar.addi c0_i32_4744 v4290
  v4291.toNat
def k0_dev191 (d0 : Dev nD) : Nat :=
  let c0_i32_4791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4790 : BitVec 32 := 1#32
  let v4326 : BitVec 32 := Scalar.muli v7 c1_i32_4790
  let v4327 : BitVec 32 := Scalar.addi c0_i32_4791 v4326
  v4327.toNat
def k0_dev192 (d0 : Dev nD) : Nat :=
  let c0_i32_4798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4797 : BitVec 32 := 1#32
  let v4336 : BitVec 32 := Scalar.muli v5 c1_i32_4797
  let v4337 : BitVec 32 := Scalar.addi c0_i32_4798 v4336
  v4337.toNat
def k0_dev193 (d0 : Dev nD) : Nat :=
  let c0_i32_4845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4844 : BitVec 32 := 1#32
  let v4372 : BitVec 32 := Scalar.muli v5 c1_i32_4844
  let v4373 : BitVec 32 := Scalar.addi c0_i32_4845 v4372
  v4373.toNat
def k0_dev194 (d0 : Dev nD) : Nat :=
  let c0_i32_4852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4851 : BitVec 32 := 1#32
  let v4382 : BitVec 32 := Scalar.muli v7 c1_i32_4851
  let v4383 : BitVec 32 := Scalar.addi c0_i32_4852 v4382
  v4383.toNat
def k0_dev195 (d0 : Dev nD) : Nat :=
  let c0_i32_4899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4898 : BitVec 32 := 1#32
  let v4418 : BitVec 32 := Scalar.muli v7 c1_i32_4898
  let v4419 : BitVec 32 := Scalar.addi c0_i32_4899 v4418
  v4419.toNat
def k0_dev196 (d0 : Dev nD) : Nat :=
  let c0_i32_4906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4905 : BitVec 32 := 1#32
  let v4428 : BitVec 32 := Scalar.muli v5 c1_i32_4905
  let v4429 : BitVec 32 := Scalar.addi c0_i32_4906 v4428
  v4429.toNat
def k0_dev197 (d0 : Dev nD) : Nat :=
  let c0_i32_4953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4952 : BitVec 32 := 1#32
  let v4464 : BitVec 32 := Scalar.muli v5 c1_i32_4952
  let v4465 : BitVec 32 := Scalar.addi c0_i32_4953 v4464
  v4465.toNat
def k0_dev198 (d0 : Dev nD) : Nat :=
  let c0_i32_4960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4959 : BitVec 32 := 1#32
  let v4474 : BitVec 32 := Scalar.muli v7 c1_i32_4959
  let v4475 : BitVec 32 := Scalar.addi c0_i32_4960 v4474
  v4475.toNat
def k0_dev199 (d0 : Dev nD) : Nat :=
  let c0_i32_5007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5006 : BitVec 32 := 1#32
  let v4510 : BitVec 32 := Scalar.muli v7 c1_i32_5006
  let v4511 : BitVec 32 := Scalar.addi c0_i32_5007 v4510
  v4511.toNat
def k0_dev200 (d0 : Dev nD) : Nat :=
  let c0_i32_5014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5013 : BitVec 32 := 1#32
  let v4520 : BitVec 32 := Scalar.muli v5 c1_i32_5013
  let v4521 : BitVec 32 := Scalar.addi c0_i32_5014 v4520
  v4521.toNat
def k0_dev201 (d0 : Dev nD) : Nat :=
  let c0_i32_5061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5060 : BitVec 32 := 1#32
  let v4556 : BitVec 32 := Scalar.muli v5 c1_i32_5060
  let v4557 : BitVec 32 := Scalar.addi c0_i32_5061 v4556
  v4557.toNat
def k0_dev202 (d0 : Dev nD) : Nat :=
  let c0_i32_5068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5067 : BitVec 32 := 1#32
  let v4566 : BitVec 32 := Scalar.muli v7 c1_i32_5067
  let v4567 : BitVec 32 := Scalar.addi c0_i32_5068 v4566
  v4567.toNat
def k0_dev203 (d0 : Dev nD) : Nat :=
  let c0_i32_5115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5114 : BitVec 32 := 1#32
  let v4602 : BitVec 32 := Scalar.muli v7 c1_i32_5114
  let v4603 : BitVec 32 := Scalar.addi c0_i32_5115 v4602
  v4603.toNat
def k0_dev204 (d0 : Dev nD) : Nat :=
  let c0_i32_5122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5121 : BitVec 32 := 1#32
  let v4612 : BitVec 32 := Scalar.muli v5 c1_i32_5121
  let v4613 : BitVec 32 := Scalar.addi c0_i32_5122 v4612
  v4613.toNat
def k0_dev205 (d0 : Dev nD) : Nat :=
  let c0_i32_5169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5168 : BitVec 32 := 1#32
  let v4648 : BitVec 32 := Scalar.muli v5 c1_i32_5168
  let v4649 : BitVec 32 := Scalar.addi c0_i32_5169 v4648
  v4649.toNat
def k0_dev206 (d0 : Dev nD) : Nat :=
  let c0_i32_5176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5175 : BitVec 32 := 1#32
  let v4658 : BitVec 32 := Scalar.muli v7 c1_i32_5175
  let v4659 : BitVec 32 := Scalar.addi c0_i32_5176 v4658
  v4659.toNat
def k0_dev207 (d0 : Dev nD) : Nat :=
  let c0_i32_5223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5222 : BitVec 32 := 1#32
  let v4694 : BitVec 32 := Scalar.muli v7 c1_i32_5222
  let v4695 : BitVec 32 := Scalar.addi c0_i32_5223 v4694
  v4695.toNat
def k0_dev208 (d0 : Dev nD) : Nat :=
  let c0_i32_5230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5229 : BitVec 32 := 1#32
  let v4704 : BitVec 32 := Scalar.muli v5 c1_i32_5229
  let v4705 : BitVec 32 := Scalar.addi c0_i32_5230 v4704
  v4705.toNat
def k0_dev209 (d0 : Dev nD) : Nat :=
  let c0_i32_5277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5276 : BitVec 32 := 1#32
  let v4740 : BitVec 32 := Scalar.muli v5 c1_i32_5276
  let v4741 : BitVec 32 := Scalar.addi c0_i32_5277 v4740
  v4741.toNat
def k0_dev210 (d0 : Dev nD) : Nat :=
  let c0_i32_5284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5283 : BitVec 32 := 1#32
  let v4750 : BitVec 32 := Scalar.muli v7 c1_i32_5283
  let v4751 : BitVec 32 := Scalar.addi c0_i32_5284 v4750
  v4751.toNat
def k0_dev211 (d0 : Dev nD) : Nat :=
  let c0_i32_5331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5330 : BitVec 32 := 1#32
  let v4786 : BitVec 32 := Scalar.muli v7 c1_i32_5330
  let v4787 : BitVec 32 := Scalar.addi c0_i32_5331 v4786
  v4787.toNat
def k0_dev212 (d0 : Dev nD) : Nat :=
  let c0_i32_5338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5337 : BitVec 32 := 1#32
  let v4796 : BitVec 32 := Scalar.muli v5 c1_i32_5337
  let v4797 : BitVec 32 := Scalar.addi c0_i32_5338 v4796
  v4797.toNat
def k0_dev213 (d0 : Dev nD) : Nat :=
  let c0_i32_5385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5384 : BitVec 32 := 1#32
  let v4832 : BitVec 32 := Scalar.muli v5 c1_i32_5384
  let v4833 : BitVec 32 := Scalar.addi c0_i32_5385 v4832
  v4833.toNat
def k0_dev214 (d0 : Dev nD) : Nat :=
  let c0_i32_5392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5391 : BitVec 32 := 1#32
  let v4842 : BitVec 32 := Scalar.muli v7 c1_i32_5391
  let v4843 : BitVec 32 := Scalar.addi c0_i32_5392 v4842
  v4843.toNat
def k0_dev215 (d0 : Dev nD) : Nat :=
  let c0_i32_5439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5438 : BitVec 32 := 1#32
  let v4878 : BitVec 32 := Scalar.muli v7 c1_i32_5438
  let v4879 : BitVec 32 := Scalar.addi c0_i32_5439 v4878
  v4879.toNat
def k0_dev216 (d0 : Dev nD) : Nat :=
  let c0_i32_5446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5445 : BitVec 32 := 1#32
  let v4888 : BitVec 32 := Scalar.muli v5 c1_i32_5445
  let v4889 : BitVec 32 := Scalar.addi c0_i32_5446 v4888
  v4889.toNat
def k0_dev217 (d0 : Dev nD) : Nat :=
  let c0_i32_5493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5492 : BitVec 32 := 1#32
  let v4924 : BitVec 32 := Scalar.muli v5 c1_i32_5492
  let v4925 : BitVec 32 := Scalar.addi c0_i32_5493 v4924
  v4925.toNat
def k0_dev218 (d0 : Dev nD) : Nat :=
  let c0_i32_5500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5499 : BitVec 32 := 1#32
  let v4934 : BitVec 32 := Scalar.muli v7 c1_i32_5499
  let v4935 : BitVec 32 := Scalar.addi c0_i32_5500 v4934
  v4935.toNat
def k0_dev219 (d0 : Dev nD) : Nat :=
  let c0_i32_5547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5546 : BitVec 32 := 1#32
  let v4970 : BitVec 32 := Scalar.muli v7 c1_i32_5546
  let v4971 : BitVec 32 := Scalar.addi c0_i32_5547 v4970
  v4971.toNat
def k0_dev220 (d0 : Dev nD) : Nat :=
  let c0_i32_5554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5553 : BitVec 32 := 1#32
  let v4980 : BitVec 32 := Scalar.muli v5 c1_i32_5553
  let v4981 : BitVec 32 := Scalar.addi c0_i32_5554 v4980
  v4981.toNat
def k0_dev221 (d0 : Dev nD) : Nat :=
  let c0_i32_5601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5600 : BitVec 32 := 1#32
  let v5016 : BitVec 32 := Scalar.muli v5 c1_i32_5600
  let v5017 : BitVec 32 := Scalar.addi c0_i32_5601 v5016
  v5017.toNat
def k0_dev222 (d0 : Dev nD) : Nat :=
  let c0_i32_5608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5607 : BitVec 32 := 1#32
  let v5026 : BitVec 32 := Scalar.muli v7 c1_i32_5607
  let v5027 : BitVec 32 := Scalar.addi c0_i32_5608 v5026
  v5027.toNat
def k0_dev223 (d0 : Dev nD) : Nat :=
  let c0_i32_5655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5654 : BitVec 32 := 1#32
  let v5062 : BitVec 32 := Scalar.muli v7 c1_i32_5654
  let v5063 : BitVec 32 := Scalar.addi c0_i32_5655 v5062
  v5063.toNat
def k0_dev224 (d0 : Dev nD) : Nat :=
  let c0_i32_5662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5661 : BitVec 32 := 1#32
  let v5072 : BitVec 32 := Scalar.muli v5 c1_i32_5661
  let v5073 : BitVec 32 := Scalar.addi c0_i32_5662 v5072
  v5073.toNat
def k0_dev225 (d0 : Dev nD) : Nat :=
  let c0_i32_5709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5708 : BitVec 32 := 1#32
  let v5108 : BitVec 32 := Scalar.muli v5 c1_i32_5708
  let v5109 : BitVec 32 := Scalar.addi c0_i32_5709 v5108
  v5109.toNat
def k0_dev226 (d0 : Dev nD) : Nat :=
  let c0_i32_5716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5715 : BitVec 32 := 1#32
  let v5118 : BitVec 32 := Scalar.muli v7 c1_i32_5715
  let v5119 : BitVec 32 := Scalar.addi c0_i32_5716 v5118
  v5119.toNat
def k0_dev227 (d0 : Dev nD) : Nat :=
  let c0_i32_5763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5762 : BitVec 32 := 1#32
  let v5154 : BitVec 32 := Scalar.muli v7 c1_i32_5762
  let v5155 : BitVec 32 := Scalar.addi c0_i32_5763 v5154
  v5155.toNat
def k0_dev228 (d0 : Dev nD) : Nat :=
  let c0_i32_5814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5813 : BitVec 32 := 1#32
  let v5198 : BitVec 32 := Scalar.muli v5 c1_i32_5813
  let v5199 : BitVec 32 := Scalar.addi c0_i32_5814 v5198
  v5199.toNat
def k0_dev229 (d0 : Dev nD) : Nat :=
  let c0_i32_5865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5864 : BitVec 32 := 1#32
  let v5242 : BitVec 32 := Scalar.muli v7 c1_i32_5864
  let v5243 : BitVec 32 := Scalar.addi c0_i32_5865 v5242
  v5243.toNat
def k0_dev230 (d0 : Dev nD) : Nat :=
  let c0_i32_5916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5915 : BitVec 32 := 1#32
  let v5286 : BitVec 32 := Scalar.muli v5 c1_i32_5915
  let v5287 : BitVec 32 := Scalar.addi c0_i32_5916 v5286
  v5287.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Clean.lean ====
/-
  The kernel's body written as a program over lanes and steps.

  Each device runs four lanes, one per quarter of the result's columns. A lane sends a [256, 2048] chunk around the ring:
  fifteen hops that add (the reduce-scatter), then fifteen hops that forward the finished chunks (the all-gather). Lanes `q0`
  and `q1` send to the right neighbour, lanes `q2` and `q3` to the left one. The printed body unrolls the thirty steps of
  the four lanes; `body_eq` states that it is `prog` below.
-/
module

public import proofs.«01_k».proof.Proof.Gen.KernelIdeal

@[expose] public section

noncomputable section

namespace Cert.Ring

open Cert.KernelIdeal Cert.KernelIdeal.Gen
open Idealize.ShloMosaic Idealize.ShloMosaic.TcCoe Idealize.SL.Sem

variable {F : FTy → Type} [FloatOps F]

/-- The four lanes, in the order the kernel serves them. -/
inductive Lane
  | q0 | q2 | q1 | q3
  deriving DecidableEq

instance : Fintype Lane := ⟨{.q0, .q2, .q1, .q3}, fun x => by cases x <;> decide⟩

/-- A program of the TensorCore of a device. -/
abbrev Pgm (F : FTy → Type) : Type 1 := Prog (TpuEff nD τ sig (Elt F) Λ₀ .tc) PUnit

/-! ## Neighbours, offsets and slots -/

/-- The left neighbour, as the kernel computes it. -/
def leftD (d : Dev nD) : Dev nD := ⟨k0_dev1 d, k0_dev1_lt d⟩
/-- The right neighbour, as the kernel computes it. -/
def rightD (d : Dev nD) : Dev nD := ⟨k0_dev2 d, k0_dev2_lt d⟩

/-- Where a lane's chunks are sent. -/
def dst : Lane → Dev nD → Dev nD
  | .q0, d => rightD d
  | .q2, d => leftD d
  | .q1, d => rightD d
  | .q3, d => leftD d
/-- Where a lane's chunks come from, to whom its credits go. -/
def src : Lane → Dev nD → Dev nD
  | .q0, d => leftD d
  | .q2, d => rightD d
  | .q1, d => leftD d
  | .q3, d => rightD d

/-- The word added to the device's index for a chunk `n` places upstream. -/
def upWord : Lane → Nat → BitVec 32
  | .q0, n => BitVec.ofNat 32 ((4294967296 - n) % 4294967296)
  | .q2, n => BitVec.ofNat 32 n
  | .q1, n => BitVec.ofNat 32 ((4294967296 - n) % 4294967296)
  | .q3, n => BitVec.ofNat 32 n

/-- The first column of a lane's quarter. -/
def col : Lane → Nat
  | .q0 => 0
  | .q2 => 4096
  | .q1 => 2048
  | .q3 => 6144

/-- How far upstream the chunk of the `n`-th flush is. -/
def flAt (n : Nat) : Nat := (n % 16 + 15) % 16

/-- The offsets of the block of `x` used at step `s`. -/
def xOff (L : Lane) (d : Dev nD) (s : Nat) : Fin 2 → Nat := k0_off2 d (upWord L (s % 15 + 1))

/-- The offsets of the chunk of the result written by the `n`-th flush. -/
def oOff (L : Lane) (d : Dev nD) (n : Nat) : Fin 2 → Nat :=
  match L with
  | .q0 => k0_off3 d (upWord .q0 (flAt n))
  | .q2 => k0_off4 d (upWord .q2 (flAt n))
  | .q1 => k0_off5 d (upWord .q1 (flAt n))
  | .q3 => k0_off6 d (upWord .q3 (flAt n))

/-- The device `n` places upstream of `d` on a lane. -/
def upAt (L : Lane) (d : Dev nD) (n : Nat) : Nat :=
  match L with
  | .q0 => (d.val + 16 - n) % 16
  | .q2 => (d.val + n) % 16
  | .q1 => (d.val + 16 - n) % 16
  | .q3 => (d.val + n) % 16

theorem upAt_lt (L : Lane) (d : Dev nD) (n : Nat) : upAt L d n < 16 := by
  cases L <;> exact Nat.mod_lt _ (by decide)

theorem xOff_fin (L : Lane) (d : Dev nD) (s : Fin 15) : xOff L d s = ![256 * upAt L d (s.val + 1), 0] := by
  revert L d s; decide +kernel

theorem oOff_fin (L : Lane) (d : Dev nD) (n : Fin 16) : oOff L d n = ![256 * upAt L d (flAt n), col L] := by
  revert L d n; decide +kernel

theorem xOff_eq (L : Lane) (d : Dev nD) (s : Nat) : xOff L d s = ![256 * upAt L d (s % 15 + 1), 0] := by
  rw [← xOff_fin L d ⟨s % 15, Nat.mod_lt _ (by decide)⟩]; simp [xOff]

theorem oOff_eq (L : Lane) (d : Dev nD) (n : Nat) : oOff L d n = ![256 * upAt L d (flAt n), col L] := by
  have h := oOff_fin L d ⟨n % 16, Nat.mod_lt _ (by decide)⟩
  have e : flAt (n % 16) = flAt n := by simp [flAt]
  simp only [e] at h
  rw [← h]; cases L <;> simp [oOff, e]

theorem xOff_inb (L : Lane) (d : Dev nD) (s : Nat) : ∀ a, xOff L d s a + S256x256.size a ≤ S4096x256.size a := by
  rw [xOff_eq]
  have := upAt_lt L d (s % 15 + 1)
  intro a; fin_cases a
  · show 256 * upAt L d (s % 15 + 1) + 256 ≤ 4096; omega
  · show 0 + 256 ≤ 256; omega

theorem oOff_inb (L : Lane) (d : Dev nD) (n : Nat) : ∀ a, oOff L d n a + S256x2048.size a ≤ S4096x8192.size a := by
  rw [oOff_eq]
  have := upAt_lt L d (flAt n)
  intro a; fin_cases a
  · show 256 * upAt L d (flAt n) + 256 ≤ 4096; omega
  · show col L + 2048 ≤ 8192; cases L <;> decide

theorem col_inb (L : Lane) : ∀ a, (![0, col L] : Fin 2 → Nat) a + S256x2048.size a ≤ S256x8192.size a := by
  cases L <;> decide

/-- The slot of a three-slot buffer hop `s` uses. -/
def sl3 (s : Nat) : Fin 3 := ⟨s % 3, Nat.mod_lt _ (by decide)⟩
/-- The slot of the staging pair flush `n` uses. -/
def sl2 (n : Nat) : Fin 2 := ⟨n % 2, Nat.mod_lt _ (by decide)⟩

theorem inb3 (j : Fin 3) : ∀ a, (![j.val, 0, 0] : Fin 3 → Nat) a + S1x256x2048.size a ≤ S3x256x2048.size a := by
  revert j; decide
theorem inb2 (j : Fin 2) : ∀ a, (![j.val, 0, 0] : Fin 3 → Nat) a + S1x256x2048.size a ≤ S2x256x2048.size a := by
  revert j; decide
theorem inbs3 (j : Fin 3) : ∀ a, (![j.val] : Fin 1 → Nat) a + S1.size a ≤ S3.size a := by revert j; decide
theorem inbs2 (j : Fin 2) : ∀ a, (![j.val] : Fin 1 → Nat) a + S1.size a ≤ S2.size a := by revert j; decide

/-- The rectangle of a slot of a three-slot buffer, of the staging pair, of the semaphore arrays. -/
abbrev rect3 (j : Fin 3) : Rect S3x256x2048 := Rect.unit (s := S3x256x2048) ![j.val, 0, 0] S1x256x2048.size (inb3 j)
abbrev rect2 (j : Fin 2) : Rect S2x256x2048 := Rect.unit (s := S2x256x2048) ![j.val, 0, 0] S1x256x2048.size (inb2 j)

theorem packed3 (j : Fin 3) : (rect3 j).PackedRows (EltTy.packing .bf16) := by
  revert j; decide
theorem words3 (j : Fin 3) : (rect3 j).WholeWords (EltTy.packing .bf16) := by
  revert j; decide

/-! ## The lane's buffers and semaphores -/

abbrev sendM : Lane → Memref sig .tc .vmem S3x256x2048 .bf16
  | .q0 => Memref.whole cc0_scratch0
  | .q2 => Memref.whole cc0_scratch2
  | .q1 => Memref.whole cc0_scratch1
  | .q3 => Memref.whole cc0_scratch3
abbrev recvM : Lane → Memref sig .tc .vmem S3x256x2048 .bf16
  | .q0 => Memref.whole cc0_scratch4
  | .q2 => Memref.whole cc0_scratch6
  | .q1 => Memref.whole cc0_scratch5
  | .q3 => Memref.whole cc0_scratch7
abbrev stageM : Lane → Memref sig .tc .vmem S2x256x2048 .f32
  | .q0 => Memref.whole cc0_scratch8
  | .q2 => Memref.whole cc0_scratch10
  | .q1 => Memref.whole cc0_scratch9
  | .q3 => Memref.whole cc0_scratch11
abbrev outM : Memref sig .tc .hbm S4096x8192 .f32 := Memref.whole main_v1

theorem sendW (L : Lane) : (sendM L).IsWhole := by cases L <;> exact Memref.isWhole_whole _
theorem recvW (L : Lane) : (recvM L).IsWhole := by cases L <;> exact Memref.isWhole_whole _
theorem stageW (L : Lane) : (stageM L).IsWhole := by cases L <;> exact Memref.isWhole_whole _

def sendS : Lane → DmaSems sig S3
  | .q0 => cc0_scratch12
  | .q2 => cc0_scratch14
  | .q1 => cc0_scratch13
  | .q3 => cc0_scratch15
def recvS : Lane → DmaSems sig S3
  | .q0 => cc0_scratch16
  | .q2 => cc0_scratch18
  | .q1 => cc0_scratch17
  | .q3 => cc0_scratch19
def copyS : Lane → DmaSems sig S2
  | .q0 => cc0_scratch20
  | .q2 => cc0_scratch22
  | .q1 => cc0_scratch21
  | .q3 => cc0_scratch23
def credS : Lane → Sems sig S_
  | .q0 => cc0_scratch24
  | .q2 => cc0_scratch26
  | .q1 => cc0_scratch25
  | .q3 => cc0_scratch27

abbrev sendV (L : Lane) (j : Fin 3) : Memref sig .tc .vmem S256x2048 .bf16 :=
  ((sendM L).slice (rect3 j) (fun _ => rfl)).squeeze S256x2048 squeezes_S1x256x2048_S256x2048
abbrev recvV (L : Lane) (j : Fin 3) : Memref sig .tc .vmem S256x2048 .bf16 :=
  ((recvM L).slice (rect3 j) (fun _ => rfl)).squeeze S256x2048 squeezes_S1x256x2048_S256x2048
abbrev stageV (L : Lane) (j : Fin 2) : Memref sig .tc .vmem S256x2048 .f32 :=
  ((stageM L).slice (rect2 j) (fun _ => rfl)).squeeze S256x2048 squeezes_S1x256x2048_S256x2048
abbrev outV (L : Lane) (d : Dev nD) (n : Nat) : Memref sig .tc .hbm S256x2048 .f32 :=
  outM.slice (Rect.unit (s := S4096x8192) (oOff L d n) S256x2048.size (oOff_inb L d n)) (fun _ => rfl)

theorem sendE (L : Lane) (j : Fin 3) : (sendV L j).view.WordExact :=
  ((sendW L).wordExact_slice rfl _ (words3 j)).reshape _ _
theorem recvE (L : Lane) (j : Fin 3) : (recvV L j).view.WordExact :=
  ((recvW L).wordExact_slice rfl _ (words3 j)).reshape _ _
theorem stageE (L : Lane) (j : Fin 2) : (stageV L j).view.WordExact := (View.wordExact_bits rfl).reshape _ _
theorem outE (L : Lane) (d : Dev nD) (n : Nat) : (outV L d n).view.WordExact := View.wordExact_bits rfl

def sendQ (L : Lane) (j : Fin 3) : DmaSem sig :=
  (((sendS L).slice (Rect.unit (s := S3) ![j.val] S1.size (inbs3 j))).squeeze S_ squeezes_S1_S_).sem
def recvQ (L : Lane) (j : Fin 3) : DmaSem sig :=
  (((recvS L).slice (Rect.unit (s := S3) ![j.val] S1.size (inbs3 j))).squeeze S_ squeezes_S1_S_).sem
def copyQ (L : Lane) (j : Fin 2) : DmaSem sig :=
  (((copyS L).slice (Rect.unit (s := S2) ![j.val] S1.size (inbs2 j))).squeeze S_ squeezes_S1_S_).sem
def credQ (L : Lane) : Sem sig := (credS L).sem
def barQ : Sem sig := (SemArray.scalar (sig.barrier 0 rfl) : Sems sig S_).sem

/-! ## The values computed -/

/-- The product of a block of `x` and a quarter of `w`. -/
def partialV (x : Vec F S256x256 .bf16) (w : Vec F S256x2048 .bf16) : FVec F S256x2048 .bf16 :=
  truncf .bf16 (matmul dot_S256x256_S256x2048_S256x2048_1_0_0_1_n_n none (shapeCast S256x256 x shapeCasts_S256x256_S256x256)
    (shapeCast S256x2048 w shapeCasts_S256x2048_S256x2048) (constant S256x2048 .f32 0x00000000#32)) bitsLt_bf16_f32
/-- A chunk as a slot's contents, and back. -/
def up {t : FTy} (v : FVec F S256x2048 t) : FVec F S1x256x2048 t := shapeCast S1x256x2048 v shapeCasts_S256x2048_S1x256x2048
def down {t : FTy} (v : FVec F S1x256x2048 t) : FVec F S256x2048 t := shapeCast S256x2048 v shapeCasts_S1x256x2048_S256x2048
/-- The GELU, in f32. -/
def geluV (z : FVec F S256x2048 .bf16) : FVec F S256x2048 .f32 :=
  let y : FVec F S256x2048 .f32 := extf .f32 z bitsLt_bf16_f32
  mulf (mulf (broadcast S256x2048 (Scalar.ofBits .f32 0x3F000000#32)) y)
    (addf (broadcast S256x2048 (Scalar.ofBits .f32 0x3F800000#32))
      (tanh (mulf (broadcast S256x2048 (Scalar.ofBits .f32 0x3F4C422A#32))
        (addf y (mulf (mulf (mulf (broadcast S256x2048 (Scalar.ofBits .f32 0x3D372713#32)) y) y) y)))))

/-! ## The operations, each with the program that follows it -/

abbrev xM : Memref sig .tc .vmem S4096x256 .bf16 := Memref.whole cc0_stg0_0
abbrev wM : Memref sig .tc .vmem S256x8192 .bf16 := Memref.whole cc0_stg1_0

def ldX0 (d : Dev nD) (k : Vec F S256x256 .bf16 → Pgm F) : Pgm F :=
  .op (.load xM (Rect.unit (s := S4096x256) (k0_off1 d) S256x256.size (k0_off1_inb d)).toLoadRect (View.loadsAt_vmem h_S256x256)) k
def ldX (L : Lane) (d : Dev nD) (s : Nat) (k : Vec F S256x256 .bf16 → Pgm F) : Pgm F :=
  .op (.load xM (Rect.unit (s := S4096x256) (xOff L d s) S256x256.size (xOff_inb L d s)).toLoadRect (View.loadsAt_vmem h_S256x256)) k
def ldW (L : Lane) (k : Vec F S256x2048 .bf16 → Pgm F) : Pgm F :=
  .op (.load wM (Rect.unit (s := S256x8192) ![0, col L] S256x2048.size (col_inb L)).toLoadRect (View.loadsAt_vmem h_S256x2048)) k
def ldSend (L : Lane) (j : Fin 3) (k : Vec F S1x256x2048 .bf16 → Pgm F) : Pgm F :=
  .op (.load (sendM L) (rect3 j).toLoadRect (View.loadsAt_vmem h_S1x256x2048)) k
def ldRecv (L : Lane) (j : Fin 3) (k : Vec F S1x256x2048 .bf16 → Pgm F) : Pgm F :=
  .op (.load (recvM L) (rect3 j).toLoadRect (View.loadsAt_vmem h_S1x256x2048)) k
def ldStage (L : Lane) (j : Fin 2) (k : Vec F S1x256x2048 .f32 → Pgm F) : Pgm F :=
  .op (.load (stageM L) (rect2 j).toLoadRect (View.loadsAt_vmem h_S1x256x2048)) k
def stSend (L : Lane) (j : Fin 3) (v : FVec F S1x256x2048 .bf16) (k : Pgm F) : Pgm F :=
  .op (.store (sendM L) (rect3 j) v Finset.univ
    (View.stores_vmem h_S1x256x2048 ((sendW L).storeExact_slice rfl _ (packed3 j)) (fun _ => rfl)) (.inl rfl)) (fun _ => k)
def stStage (L : Lane) (j : Fin 2) (v : FVec F S1x256x2048 .f32) (k : Pgm F) : Pgm F :=
  .op (.store (stageM L) (rect2 j) v Finset.univ (View.stores_vmem_bits_univ h_S1x256x2048 rfl) (.inl rfl)) (fun _ => k)

/-- Start a remote copy into slot `j` of the next device, from a send slot or from a receive slot. -/
def putS (L : Lane) (d : Dev nD) (j : Fin 3) (k : Pgm F) : Pgm F :=
  .op (.enqueueDma (sendV L j) (.remote (Dev.tc (dst L d)) (recvV L j) (.dma (sendQ L j))) (.dma (recvQ L j))
    (sendE L j) (recvE L j) ⟨⟨rfl, Or.inl rfl⟩, trivial⟩) (fun _ => k)
def putR (L : Lane) (d : Dev nD) (i j : Fin 3) (k : Pgm F) : Pgm F :=
  .op (.enqueueDma (recvV L i) (.remote (Dev.tc (dst L d)) (recvV L j) (.dma (sendQ L j))) (.dma (recvQ L j))
    (recvE L i) (recvE L j) ⟨⟨rfl, Or.inl rfl⟩, trivial⟩) (fun _ => k)
/-- Wait for a hop whose source was a send slot, and one whose source was a receive slot. -/
def waitHopS (L : Lane) (j : Fin 3) (k : Pgm F) : Pgm F :=
  .op (.waitDma2 (sendQ L j) (recvV L j) (sendV L j) (recvE L j) (sendE L j)) fun _ =>
  .op (.waitDma2 (recvQ L j) (sendV L j) (recvV L j) (sendE L j) (recvE L j)) fun _ => k
def waitHopR (L : Lane) (i j : Fin 3) (k : Pgm F) : Pgm F :=
  .op (.waitDma2 (sendQ L j) (recvV L j) (recvV L i) (recvE L j) (recvE L i)) fun _ =>
  .op (.waitDma2 (recvQ L j) (recvV L i) (recvV L j) (recvE L i) (recvE L j)) fun _ => k
def credWait (L : Lane) (k : Pgm F) : Pgm F := .op (.semWait (credQ L) (1#32 : BitVec 32).toInt) (fun _ => k)
def credSig (L : Lane) (d : Dev nD) (k : Pgm F) : Pgm F :=
  .op (.semSignal (src L d, .tc) (credQ L) (1#32 : BitVec 32).toInt) (fun _ => k)
def copyOut (L : Lane) (d : Dev nD) (n : Nat) (k : Pgm F) : Pgm F :=
  .op (.enqueueDma (stageV L (sl2 n)) (.here (outV L d n)) (.dma (copyQ L (sl2 n))) (stageE L (sl2 n)) (outE L d n)
    ⟨Or.inl rfl, trivial⟩) (fun _ => k)
def waitOut (L : Lane) (d : Dev nD) (n : Nat) (k : Pgm F) : Pgm F :=
  .op (.waitDma2 (copyQ L (sl2 n)) (stageV L (sl2 n)) (outV L d n) (stageE L (sl2 n)) (outE L d n)) (fun _ => k)

/-! ## The steps -/

/-- The first hop of a lane. -/
def start (L : Lane) (d : Dev nD) (k : Pgm F) : Pgm F :=
  ldX0 d fun x => ldW L fun w => ldSend L 0 fun _ => stSend L 0 (up (partialV x w)) <| putS L d 0 k

/-- Step `s < 14`: the chunk that arrived gains this device's product and is sent on. -/
def addStep (L : Lane) (d : Dev nD) (s : Nat) (credit : Bool) (k : Pgm F) : Pgm F :=
  ldX L d s fun x => ldW L fun w => waitHopS L (sl3 s) <| ldRecv L (sl3 s) fun r => ldSend L (sl3 (s + 1)) fun _ =>
  stSend L (sl3 (s + 1)) (up (addf (down r) (partialV x w))) <|
  (match credit with | true => credWait L | false => id) <| putS L d (sl3 (s + 1)) <| credSig L d k

/-- The `n`-th flush: the finished chunk goes to the staging pair and from there to the result. -/
def flush (L : Lane) (d : Dev nD) (n : Nat) (pending : Bool) (v : FVec F S256x2048 .f32) (k : Pgm F) : Pgm F :=
  (match pending with | true => waitOut L d (n - 2) | false => id) <|
  ldStage L (sl2 n) fun _ => stStage L (sl2 n) (up v) <| copyOut L d n k

/-- Step 14: the last addition, the GELU, the first flush, and the first all-gather hop. -/
def turnStep (L : Lane) (d : Dev nD) (k : Pgm F) : Pgm F :=
  ldX L d 14 fun x => ldW L fun w => waitHopS L (sl3 14) <| ldRecv L (sl3 14) fun r => ldSend L (sl3 15) fun _ =>
  let g := geluV (addf (down r) (partialV x w))
  stSend L (sl3 15) (up (truncf .bf16 g bitsLt_bf16_f32)) <| credWait L <| putS L d (sl3 15) <| credSig L d <|
  flush L d 0 false g k

/-- Step `s ≥ 15`: the finished chunk that arrived is forwarded (but for the last) and flushed. -/
def fwdStep (L : Lane) (d : Dev nD) (s : Nat) (first pending forward credit : Bool) (k : Pgm F) : Pgm F :=
  (match first with | true => waitHopS L (sl3 s) | false => waitHopR L (sl3 (s - 1)) (sl3 s)) <|
  (match forward with | true => fun k => credWait L <| putR L d (sl3 s) (sl3 (s + 1)) k | false => id) <|
  (match credit with | true => credSig L d | false => id) <|
  ldRecv L (sl3 s) fun r => flush L d (s - 14) pending (extf .f32 (down r) bitsLt_bf16_f32) k

/-- A step of one lane. -/
def laneStep (L : Lane) (d : Dev nD) (s : Nat) (k : Pgm F) : Pgm F :=
  match decide (s < 14), decide (s < 15) with
  | true, _ => addStep L d s (decide (2 ≤ s)) k
  | false, true => turnStep L d k
  | false, false => fwdStep L d s (decide (s = 15)) (decide (16 ≤ s)) (decide (s < 29)) (decide (16 ≤ s ∧ s ≤ 27)) k

/-- The same for the four lanes. -/
def each (f : Lane → Pgm F → Pgm F) (k : Pgm F) : Pgm F := f .q0 <| f .q2 <| f .q1 <| f .q3 k

/-- The steps from `s` on, `n` of them. -/
def steps (d : Dev nD) : Nat → Nat → Pgm F → Pgm F
  | 0, _, k => k
  | n + 1, s, k => each (fun L => laneStep L d s) (steps d n (s + 1) k)

/-- The last two copies out of a lane. -/
def drain (L : Lane) (d : Dev nD) (k : Pgm F) : Pgm F := waitOut L d 14 <| waitOut L d 15 k

/-- The kernel's body. -/
def prog : Pgm F :=
  .op .deviceId fun d : Dev nD =>
  .op (.semSignal (leftD d, .tc) barQ (1#32 : BitVec 32).toInt) fun _ =>
  .op (.semSignal (rightD d, .tc) barQ (1#32 : BitVec 32).toInt) fun _ =>
  .op (.semWait barQ (2#32 : BitVec 32).toInt) fun _ =>
  each (fun L => start L d) <| steps d 30 0 <| each (fun L => drain L d) <| .ret ⟨⟩

end Cert.Ring
-- ==== Proof.Sched.lean ====
/-
  The protocol of the ring, as a schedule of rounds.

  Every (device, lane, slot) has a send cell, a receive cell and a copy cell, every (device, lane) a credit cell, every device a
  barrier cell. Hop `h` of a lane uses slot `h % 3` and is round `h / 3` of that slot's send and receive cells; the `n`-th
  flush is round `n / 2` of its copy cell. A lane's credits are the twenty-seven duties of one round of its credit cell: the
  receiver may run ahead of the sender's waits, so the `k`-th credit carries what all the credits up to it say. A receive slot
  goes to its writer through an invariant (`Release`), and a credit is the news that it has been put there.
-/
module

public import Idealize.ShloMosaic.Lib.Pipeline.Launch
public import Idealize.ShloMosaic.Lib.Pipeline.Kit
public import Idealize.ShloMosaic.Lib.Release
public import Idealize.ShloMosaic.Lib.Tactic
public import proofs.«01_k».proof.Proof.Gen.KernelIdeal
public import proofs.«01_k».proof.Proof.Clean

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The algebra -/

/-- The ring's rounds, their duties numbered. -/
abbrev UB : Type := URounds (GSem nD τ sig) ℕ
/-- A receive slot: of a device, a lane, a place. -/
abbrev Key : Type := Dev nD × Lane × Fin 3
/-- The proof's algebra: the pipeline's rounds, the ring's, and the receive slots. -/
abbrev UU : Type := UR sig nD τ × (UB × USlots Key)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × USlots Key)).trans embR
def EL : Emb (USlots Key) (MT nD τ sig ℕ (Elt F) ℕ UU ℕ) := (Emb.inr : Emb (USlots Key) (UB × USlots Key)).trans embR

instance ER_landsIn : (ER : Emb UB 𝕄).LandsIn (upEmb : UEmb _ 𝕄) := by unfold ER; infer_instance
instance EL_landsIn : (EL : Emb (USlots Key) 𝕄).LandsIn (upEmb : UEmb _ 𝕄) := by unfold EL; infer_instance

/-! ## The cells -/

/-- The kernel's semaphores: send, receive, copy, credit, barrier. -/
abbrev CK : Type := (Lane × Fin 3) ⊕ (Lane × Fin 3) ⊕ (Lane × Fin 2) ⊕ Lane ⊕ Unit

abbrev kSend (L : Lane) (j : Fin 3) : CK := .inl (L, j)
abbrev kRecv (L : Lane) (j : Fin 3) : CK := .inr (.inl (L, j))
abbrev kCopy (L : Lane) (i : Fin 2) : CK := .inr (.inr (.inl (L, i)))
abbrev kCred (L : Lane) : CK := .inr (.inr (.inr (.inl L)))
abbrev kBar : CK := .inr (.inr (.inr (.inr ())))

@[reducible] def csem : CK → SemLoc sig
  | .inl (L, j) => .dma (sendQ L j)
  | .inr (.inl (L, j)) => .dma (recvQ L j)
  | .inr (.inr (.inl (L, i))) => .dma (copyQ L i)
  | .inr (.inr (.inr (.inl L))) => .reg (credQ L)
  | .inr (.inr (.inr (.inr _))) => .reg barQ

theorem csem_inj : Function.Injective csem := by decide +kernel

/-- Which of the kernel's semaphores a semaphore is. -/
def kindOf (sm : SemLoc sig) : Option CK :=
  open Classical in if h : ∃ k, csem k = sm then some h.choose else none

theorem kindOf_csem (k : CK) : kindOf (csem k) = some k := by
  have h : ∃ k', csem k' = csem k := ⟨k, rfl⟩
  unfold kindOf; rw [dif_pos h]; exact congrArg some (csem_inj h.choose_spec)

theorem kindOf_none {sm : SemLoc sig} (h : ∀ k, csem k ≠ sm) : kindOf sm = none := by
  unfold kindOf; rw [dif_neg fun ⟨k, hk⟩ => h k hk]

abbrev cell (d : Dev nD) (k : CK) : GSem nD τ sig := ((d : Thread nD τ), csem k)

theorem sl3_add (h : ℕ) : sl3 (h + 3) = sl3 h := by unfold sl3; exact Fin.ext (Nat.add_mod_right h 3)
theorem sl2_add (h : ℕ) : sl2 (h + 2) = sl2 h := by unfold sl2; exact Fin.ext (Nat.add_mod_right h 2)

/-! ## The ring -/

theorem src_dst (L : Lane) (d : Dev nD) : src L (dst L d) = d := by revert L d; decide +kernel
theorem dst_src (L : Lane) (d : Dev nD) : dst L (src L d) = d := by revert L d; decide +kernel
theorem left_right (d : Dev nD) : leftD (rightD d) = d := by revert d; decide +kernel
theorem right_left (d : Dev nD) : rightD (leftD d) = d := by revert d; decide +kernel

/-! ## Units -/

/-- What a chunk's transfer credits, between devices and to the result. -/
def N : ℕ := (recvV .q0 0).view.dmaCredit
def M : ℕ := (outV .q0 0 0).view.dmaCredit

theorem N_pos : 0 < N := View.dmaCredit_pos _ (by decide)
theorem M_pos : 0 < M := View.dmaCredit_pos _ (by decide)
theorem N_recv (L : Lane) (j : Fin 3) : (recvV L j).view.dmaCredit = N := by cases L <;> rfl
theorem N_send (L : Lane) (j : Fin 3) : (sendV L j).view.dmaCredit = N := by cases L <;> rfl
theorem M_out (L : Lane) (d : Dev nD) (n : ℕ) : (outV L d n).view.dmaCredit = M := rfl

/-! ## The values -/

section Values

variable (X : Dev nD → (cc0_stg0_0 : Ref sig .tc).ty.Contents (Elt F)) (Wt : Dev nD → (cc0_stg1_0 : Ref sig .tc).ty.Contents (Elt F))

/-- The product a device adds at the start, at step `s`. -/
def pv0 (L : Lane) (d : Dev nD) : FVec F S256x2048 .bf16 :=
  partialV (xM.view.readAt (Elt F) (Rect.unit (s := S4096x256) (k0_off1 d) S256x256.size (k0_off1_inb d)).toLoadRect (X d))
    (wM.view.readAt (Elt F) (Rect.unit (s := S256x8192) ![0, col L] S256x2048.size (col_inb L)).toLoadRect (Wt d))
def pv (L : Lane) (d : Dev nD) (s : ℕ) : FVec F S256x2048 .bf16 :=
  partialV (xM.view.readAt (Elt F) (Rect.unit (s := S4096x256) (xOff L d s) S256x256.size (xOff_inb L d s)).toLoadRect (X d))
    (wM.view.readAt (Elt F) (Rect.unit (s := S256x8192) ![0, col L] S256x2048.size (col_inb L)).toLoadRect (Wt d))

/-- The partial sum hop `h ≤ 14` brings to a device. -/
def arrA (L : Lane) : ℕ → Dev nD → FVec F S256x2048 .bf16
  | 0, d => pv0 X Wt L (src L d)
  | h + 1, d => addf (arrA L h (src L d)) (pv X Wt L (src L d) h)

/-- A device's own finished chunk. -/
def gel (L : Lane) (d : Dev nD) : FVec F S256x2048 .f32 := geluV (addf (arrA X Wt L 14 d) (pv X Wt L d 14))

/-- The finished chunk hop `15 + i` brings to a device. -/
def arrB (L : Lane) : ℕ → Dev nD → FVec F S256x2048 .bf16
  | 0, d => truncf .bf16 (gel X Wt L (src L d)) bitsLt_bf16_f32
  | i + 1, d => arrB L i (src L d)

/-- What hop `h` brings to a device. -/
def arr (L : Lane) (d : Dev nD) (h : ℕ) : FVec F S256x2048 .bf16 :=
  if h ≤ 14 then arrA X Wt L h d else arrB X Wt L (h - 15) d

/-- What the `n`-th flush writes. -/
def outv (L : Lane) (d : Dev nD) : ℕ → FVec F S256x2048 .f32
  | 0 => gel X Wt L d
  | n + 1 => extf .f32 (arrB X Wt L n d) bitsLt_bf16_f32

theorem arr_zero (L : Lane) (d : Dev nD) : arr X Wt L (dst L d) 0 = pv0 X Wt L d := by
  simp [arr, arrA, src_dst]
theorem arr_add (L : Lane) (d : Dev nD) (h : ℕ) (hh : h < 14) :
    arr X Wt L (dst L d) (h + 1) = addf (arr X Wt L d h) (pv X Wt L d h) := by
  simp [arr, show h + 1 ≤ 14 by omega, show h ≤ 14 by omega, arrA, src_dst]
theorem arr_turn (L : Lane) (d : Dev nD) :
    arr X Wt L (dst L d) 15 = truncf .bf16 (geluV (addf (arr X Wt L d 14) (pv X Wt L d 14))) bitsLt_bf16_f32 := by
  simp [arr, arrB, gel, src_dst]
theorem arr_fwd (L : Lane) (d : Dev nD) (h : ℕ) (hh : 15 ≤ h) : arr X Wt L (dst L d) (h + 1) = arr X Wt L d h := by
  obtain ⟨i, rfl⟩ := Nat.exists_eq_add_of_le hh
  have e : 15 + i + 1 - 15 = i + 1 := by omega
  simp only [arr, show ¬ 15 + i + 1 ≤ 14 by omega, show ¬ 15 + i ≤ 14 by omega, if_false, e, Nat.add_sub_cancel_left, arrB, src_dst]
theorem outv_zero (L : Lane) (d : Dev nD) : outv X Wt L d 0 = geluV (addf (arr X Wt L d 14) (pv X Wt L d 14)) := by
  simp [arr, outv, gel]
theorem outv_fwd (L : Lane) (d : Dev nD) (h : ℕ) (hh : 15 ≤ h) :
    outv X Wt L d (h - 14) = extf .f32 (arr X Wt L d h) bitsLt_bf16_f32 := by
  obtain ⟨i, rfl⟩ := Nat.exists_eq_add_of_le hh
  have e : 15 + i - 14 = i + 1 := by omega
  simp only [arr, show ¬ 15 + i ≤ 14 by omega, if_false, e, Nat.add_sub_cancel_left, outv]

/-! ## What the cells hand over -/

/-- The elements a view covers, at some contents. -/
abbrev own1 {sp : Space} {s : Shape} {e : EltTy} (d : Dev nD) (V : Memref sig .tc sp s e) : sProp 𝕄 :=
  slot (V.view.loc (d : Thread nD τ)) V.view.set
/-- The elements a view covers, where it reads `v`. -/
def ownV {sp : Space} {s : Shape} {e : EltTy} (d : Dev nD) (V : Memref sig .tc sp s e) (q : PosShare TreeShare) (v : s.Idx → Elt F e) : sProp 𝕄 :=
  iprop(∃ f : Buf (Elt F) (V.view.loc (d : Thread nD τ)), ⌜V.view.read (Elt F) f = v⌝ ∗ V.view.loc (d : Thread nD τ) ↦[V.view.set]{q} f)

instance ownV_storable {sp : Space} {s : Shape} {e : EltTy} (d : Dev nD) (V : Memref sig .tc sp s e) (q : PosShare TreeShare) (v : s.Idx → Elt F e) :
    Storable (upEmb : UEmb _ 𝕄) (ownV d V q v) := by unfold ownV; infer_instance

theorem ownV_own1 {sp : Space} {s : Shape} {e : EltTy} (d : Dev nD) (V : Memref sig .tc sp s e) (v : s.Idx → Elt F e) :
    ownV d V fullShare v ⊢ (own1 d V : sProp 𝕄) := by
  unfold ownV own1 slot; iintro ⟨%f, -, H⟩; iexists f; iexact H

/-- The source of hop `h`, given back. -/
def sendPay (L : Lane) (d : Dev nD) (h : ℕ) : sProp 𝕄 :=
  if h ≤ 15 then own1 d (sendV L (sl3 h))
  else iprop(∃ f : Buf (Elt F) ((recvV L (sl3 (h - 1))).view.loc (d : Thread nD τ)),
    (recvV L (sl3 (h - 1))).view.loc (d : Thread nD τ) ↦[(recvV L (sl3 (h - 1))).view.set]{fullShare.left} f)

/-- The chunk of hop `h`. -/
def recvPay (L : Lane) (d : Dev nD) (h : ℕ) : sProp 𝕄 := ownV d (recvV L (sl3 h)) fullShare (arr X Wt L d h)

/-- The staging slot and the chunk written of the `n`-th flush. -/
def copyPay (L : Lane) (d : Dev nD) (n : ℕ) : sProp 𝕄 :=
  iprop(own1 d (stageV L (sl2 n)) ∗ ownV d (outV L d n) fullShare (outv X Wt L d n))

/-- What credit `k` from device `e` says: its slot has been read and put back, its receive cell is at the next round. -/
def credFact (L : Lane) (e : Dev nD) (k : ℕ) : sProp 𝕄 :=
  iprop(released EL (e, L, sl3 k) (k / 3 + 2) ∗ reached ER (cell e (kRecv L (sl3 k))) (k / 3 + 1))
instance credFact_persistent (L : Lane) (e : Dev nD) (k : ℕ) : BI.Persistent (credFact L e k : sProp 𝕄) := by
  unfold credFact; infer_instance
instance credFact_storable (L : Lane) (e : Dev nD) (k : ℕ) : Storable (upEmb : UEmb _ 𝕄) (credFact L e k : sProp 𝕄) := by
  unfold credFact; infer_instance

/-- What the first `k` credits say. -/
def credFacts (L : Lane) (e : Dev nD) (k : ℕ) : sProp 𝕄 := bigSep (Finset.range k) (credFact L e)
instance credFacts_persistent (L : Lane) (e : Dev nD) (k : ℕ) : BI.Persistent (credFacts L e k : sProp 𝕄) := by
  unfold credFacts; infer_instance
instance credFacts_storable (L : Lane) (e : Dev nD) (k : ℕ) : Storable (upEmb : UEmb _ 𝕄) (credFacts L e k : sProp 𝕄) := by
  unfold credFacts; infer_instance

/-- What device `e` says of a lane when it arrives: its receive slots have been put down. -/
def barFact (L : Lane) (e : Dev nD) : sProp 𝕄 :=
  iprop(released EL (e, L, 0) 1 ∗ released EL (e, L, 1) 1 ∗ released EL (e, L, 2) 1)
instance barFact_persistent (L : Lane) (e : Dev nD) : BI.Persistent (barFact L e : sProp 𝕄) := by unfold barFact; infer_instance
instance barFact_storable (L : Lane) (e : Dev nD) : Storable (upEmb : UEmb _ 𝕄) (barFact L e : sProp 𝕄) := by unfold barFact; infer_instance

/-- What an arriving neighbour hands over: the left one (0) for the lanes that send left, the right one (1) for the others. -/
def barPay (d : Dev nD) (t : ℕ) : sProp 𝕄 :=
  if t = 0 then iprop(barFact .q2 (leftD d) ∗ barFact .q3 (leftD d)) else iprop(barFact .q0 (rightD d) ∗ barFact .q1 (rightD d))

/-! ## The schedule -/

def dutiesK : CK → ℕ → Finset ℕ
  | .inl _, r => if r < 10 then {0} else ∅
  | .inr (.inl _), r => if r < 10 then {0} else ∅
  | .inr (.inr (.inl _)), r => if r < 8 then {0} else ∅
  | .inr (.inr (.inr (.inl _))), r => if r = 0 then Finset.range 27 else ∅
  | .inr (.inr (.inr (.inr _))), r => if r = 0 then {0, 1} else ∅

def amountK : CK → ℕ
  | .inl _ => N
  | .inr (.inl _) => N
  | .inr (.inr (.inl _)) => M
  | .inr (.inr (.inr (.inl _))) => 1
  | .inr (.inr (.inr (.inr _))) => 1

def payK (d : Dev nD) : CK → ℕ → ℕ → sProp 𝕄
  | .inl (L, j), r, _ => sendPay L d (3 * r + j)
  | .inr (.inl (L, j)), r, _ => recvPay X Wt L d (3 * r + j)
  | .inr (.inr (.inl (L, i))), r, _ => copyPay X Wt L d (2 * r + i)
  | .inr (.inr (.inr (.inl L))), _, t => credFacts L (dst L d) (t + 1)
  | .inr (.inr (.inr (.inr _))), _, t => barPay d t

theorem amountK_pos (k : CK) : 0 < amountK k := by
  rcases k with _ | _ | _ | _ | _
  exacts [N_pos, N_pos, M_pos, Nat.one_pos, Nat.one_pos]

def Rd : Schedule (GSem nD τ sig) ℕ 𝕄 where
  duties g r := (kindOf g.2).elim ∅ fun k => dutiesK k r
  amount g _ _ := (kindOf g.2).elim 1 amountK
  payload g r t := (kindOf g.2).elim iprop(emp) fun k => payK X Wt g.1.1 k r t
  amount_pos g r t _ := by
    cases h : kindOf g.2 with
    | none => exact Nat.one_pos
    | some k => exact amountK_pos k

instance payK_storable (d : Dev nD) (k : CK) (r t : ℕ) : Storable (upEmb : UEmb _ 𝕄) (payK X Wt d k r t) := by
  rcases k with ⟨L, j⟩ | ⟨L, j⟩ | ⟨L, j⟩ | L | _
  · show Storable _ (sendPay L d _); unfold sendPay; split <;> infer_instance
  · show Storable _ (recvPay X Wt L d _); unfold recvPay; infer_instance
  · show Storable _ (copyPay X Wt L d _); unfold copyPay; infer_instance
  · show Storable _ (credFacts L (dst L d) (t + 1)); infer_instance
  · show Storable _ (barPay d t); unfold barPay; split <;> infer_instance

instance Rd_storable (g : GSem nD τ sig) (r t : ℕ) : Storable (upEmb : UEmb _ 𝕄) ((Rd X Wt).payload g r t) := by
  show Storable _ ((kindOf g.2).elim iprop(emp) fun k => payK X Wt g.1.1 k r t)
  cases kindOf g.2 with
  | none => show Storable _ iprop(emp); infer_instance
  | some k => show Storable _ (payK X Wt g.1.1 k r t); infer_instance

theorem Rd_duties (d : Dev nD) (k : CK) (r : ℕ) : (Rd X Wt).duties (cell d k) r = dutiesK k r := by
  show (kindOf (csem k)).elim ∅ _ = _; rw [kindOf_csem]; rfl
theorem Rd_amount (d : Dev nD) (k : CK) (r t : ℕ) : (Rd X Wt).amount (cell d k) r t = amountK k := by
  show (kindOf (csem k)).elim 1 _ = _; rw [kindOf_csem]; rfl
theorem Rd_payload (d : Dev nD) (k : CK) (r t : ℕ) : (Rd X Wt).payload (cell d k) r t = payK X Wt d k r t := by
  show (kindOf (csem k)).elim _ _ = _; rw [kindOf_csem]; rfl
theorem Rd_expect (d : Dev nD) (k : CK) (r : ℕ) : (Rd X Wt).expect (cell d k) r = (dutiesK k r).card * amountK k := by
  show ∑ t ∈ (Rd X Wt).duties (cell d k) r, (Rd X Wt).amount (cell d k) r t = _
  rw [Rd_duties, Finset.sum_congr rfl fun t _ => Rd_amount X Wt d k r t, Finset.sum_const, smul_eq_mul]

end Values

/-! ## What is owed, and the levels -/

/-- The indices of the units: hops and credits by their number, the others 0. -/
def Lx (g : GSem nD τ sig) : Finset ℕ := if g.1.2 = .tc then Finset.range 30 else ∅

def levK : CK → ℕ → ℕ
  | .inr (.inl _), h => 10 * h + 10
  | .inr (.inr (.inr (.inl _))), k => 10 * k + 25
  | .inr (.inr (.inr (.inr _))), _ => 5
  | _, _ => 0

def lv (g : GSem nD τ sig) (u : ℕ) : ℕ := (kindOf g.2).elim 0 fun k => levK k u

theorem lv_cell (d : Dev nD) (k : CK) (u : ℕ) : lv (cell d k) u = levK k u := by
  show (kindOf (csem k)).elim 0 _ = _; rw [kindOf_csem]; rfl
theorem mem_Lx (d : Dev nD) (k : CK) (u : ℕ) : u ∈ Lx (cell d k) ↔ u < 30 := by
  show u ∈ (if (Idealize.ShloMosaic.Proc.tc : Idealize.ShloMosaic.Proc τ) = .tc then Finset.range 30 else ∅) ↔ _; rw [if_pos rfl, Finset.mem_range]

/-- What is owed lies above `n`. -/
def Above (n : ℕ) (O : CellTallies nD τ sig ℕ) : Prop := ∀ g u, 0 < O g u → u ∈ Lx g ∧ n < lv g u

theorem Above.add {n : ℕ} {O O' : CellTallies nD τ sig ℕ} (h : Above n O) (h' : Above n O') : Above n (O + O') := by
  intro g u hu
  rcases Nat.eq_zero_or_pos (O g u) with h0 | h0
  · refine h' g u ?_
    have e : (O + O') g u = O g u + O' g u := rfl
    omega
  · exact h g u h0
theorem Above.zero {n : ℕ} : Above n 0 := fun g u h => absurd h (Nat.lt_irrefl 0)
theorem Above.mono {n n' : ℕ} {O : CellTallies nD τ sig ℕ} (h : Above n O) (hn : n' ≤ n) : Above n' O :=
  fun g u hu => ⟨(h g u hu).1, lt_of_le_of_lt hn (h g u hu).2⟩
theorem Above.at {n : ℕ} {d : Dev nD} {k : CK} {u a : ℕ} (hu : u < 30) (h : n < levK k u) :
    Above n (tallyAt (cell d k) u a) := by
  intro g u' h0
  rw [tallyAt_apply] at h0
  split at h0
  · rename_i hg; obtain ⟨rfl, rfl⟩ := hg
    exact ⟨(mem_Lx d k _).2 hu, by rw [lv_cell]; exact h⟩
  · exact absurd h0 (Nat.lt_irrefl 0)
theorem Above.sum {n : ℕ} {ι : Type} (S : Finset ι) (f : ι → CellTallies nD τ sig ℕ) (h : ∀ i ∈ S, Above n (f i)) : Above n (∑ i ∈ S, f i) := by
  classical
  induction S using Finset.induction_on with
  | empty => exact Above.zero
  | insert a S ha ih =>
    rw [Finset.sum_insert ha]
    exact (h a (Finset.mem_insert_self a S)).add (ih fun i hi => h i (Finset.mem_insert_of_mem hi))

theorem sum_Ico_bot {A : Type} [AddCommMonoid A] (f : ℕ → A) {a b : ℕ} (h : a < b) :
    ∑ i ∈ Finset.Ico a b, f i = f a + ∑ i ∈ Finset.Ico (a + 1) b, f i := by
  have e : Finset.Ico a b = insert a (Finset.Ico (a + 1) b) := by ext i; simp only [Finset.mem_insert, Finset.mem_Ico]; omega
  rw [e, Finset.sum_insert (by simp)]

/-- What a lane owes when its next send is hop `h` and its next credit number `k`. -/
def owH (L : Lane) (d : Dev nD) (h : ℕ) : CellTallies nD τ sig ℕ := ∑ i ∈ Finset.Ico h 30, tallyAt (cell (dst L d) (kRecv L (sl3 i))) i N
def owC (L : Lane) (d : Dev nD) (k : ℕ) : CellTallies nD τ sig ℕ := ∑ i ∈ Finset.Ico k 27, tallyAt (cell (src L d) (kCred L)) i 1

theorem owH_succ (L : Lane) (d : Dev nD) {h : ℕ} (hh : h < 30) :
    owH L d h = owH L d (h + 1) + tallyAt (cell (dst L d) (kRecv L (sl3 h))) h N := by
  unfold owH; rw [sum_Ico_bot _ hh, add_comm]
theorem owC_succ (L : Lane) (d : Dev nD) {k : ℕ} (hk : k < 27) :
    owC L d k = owC L d (k + 1) + tallyAt (cell (src L d) (kCred L)) k 1 := by
  unfold owC; rw [sum_Ico_bot _ hk, add_comm]
theorem owH_end (L : Lane) (d : Dev nD) {h : ℕ} (hh : 30 ≤ h) : owH L d h = 0 := by
  unfold owH; rw [Finset.Ico_eq_empty (by omega), Finset.sum_empty]
theorem owC_end (L : Lane) (d : Dev nD) {k : ℕ} (hk : 27 ≤ k) : owC L d k = 0 := by
  unfold owC; rw [Finset.Ico_eq_empty (by omega), Finset.sum_empty]

theorem owH_above (L : Lane) (d : Dev nD) {n h : ℕ} (hn : n < 10 * h + 10) : Above n (owH L d h) :=
  Above.sum _ _ fun i hi => by
    have := Finset.mem_Ico.1 hi
    exact Above.at (by omega) (by show n < 10 * i + 10; omega)
theorem owC_above (L : Lane) (d : Dev nD) {n k : ℕ} (hn : n < 10 * k + 25) : Above n (owC L d k) :=
  Above.sum _ _ fun i hi => by
    have := Finset.mem_Ico.1 hi
    exact Above.at (by omega) (by show n < 10 * i + 25; omega)

/-- A wait at a level below all that is owed. -/
theorem mayWait {d : Dev nD} {k : CK} {u n : ℕ} {O : CellTallies nD τ sig ℕ} (hu : u < 30) (hl : levK k u ≤ n) (hO : Above n O) :
    (levAts Lx lv : sProp 𝕄) ⊢ MayWait (d : Thread nD τ) (csem k) u O :=
  MayOwe.of_cut n (fun p hp => by rw [Finset.mem_singleton.1 hp]; exact (mem_Lx d k u).2 hu) (fun g v h => (hO g v h).1)
    (fun p hp => by rw [Finset.mem_singleton.1 hp]; exact (lv_cell d k u).le.trans hl) (fun g v h => (hO g v h).2)

end Cert.Ring
-- ==== Proof.Ops.lean ====
/-
  Each operation of a lane, as a step of the protocol: what it needs, what it gives.
-/
module

public import proofs.«01_k».proof.Proof.Sched

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- One of a family. -/
theorem bigSep_get {A : Type} [DecidableEq A] {S : Finset A} {Φ : A → sProp 𝕄} (a : A) (h : a ∈ S) : bigSep S Φ ⊢ Φ a := bigSep_elim h

instance decCK : DecidableEq CK := inferInstance

theorem bigSep_cons {A : Type} [DecidableEq A] {a : A} {S : Finset A} (h : a ∉ S) (Φ : A → sProp 𝕄) :
    bigSep (insert a S) Φ = iprop(Φ a ∗ bigSep S Φ) := bigSep_insert h
theorem bigSep_parts {A : Type} [DecidableEq A] {S T : Finset A} (h : T ⊆ S) (Φ : A → sProp 𝕄) :
    bigSep S Φ = iprop(bigSep (S \ T) Φ ∗ bigSep T Φ) := by
  conv_lhs => rw [← Finset.sdiff_union_of_subset h]
  exact bigSep_union Finset.sdiff_disjoint
theorem bigSep_first {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by ext i; simp only [Finset.mem_insert, Finset.mem_Ico]; omega
  rw [e]; exact bigSep_cons (by simp) Φ
theorem bigSep_last (n : ℕ) (Φ : ℕ → sProp 𝕄) : bigSep (Finset.range (n + 1)) Φ = iprop(Φ n ∗ bigSep (Finset.range n) Φ) := by
  rw [Finset.range_add_one]; exact bigSep_cons Finset.notMem_range_self Φ

abbrev 𝒱₀ : Variants := Variants.none

/-- A program's run on a device's core, at every mask. -/
abbrev WP (d : Dev nD) (p : Pgm F) (Q : PUnit.{1} → sProp 𝕄) : sProp 𝕄 :=
  wp frame (wpE (defs₀ (F := F)) 𝒱₀ (d : Thread nD τ) none) Set.univ p Q

/-- What a run is to end in. -/
abbrev Post (F : FTy → Type) [FloatOps F] : Type := PUnit.{1} → sProp 𝕄

/-- What a core owes, whatever it has waited for. -/
def owing (d : Dev nD) (O : CellTallies nD τ sig ℕ) : sProp 𝕄 := iprop(∃ W : Waits sig ℕ, owes (d : Thread nD τ) O W)

variable (X : Dev nD → (cc0_stg0_0 : Ref sig .tc).ty.Contents (Elt F)) (Wt : Dev nD → (cc0_stg1_0 : Ref sig .tc).ty.Contents (Elt F))
variable (K : Dev nD × CK → ℕ) (κ : Key → ℕ)

/-- What every device knows: the levels, the cells' invariants, that they are at round 0, the receive slots' invariants. -/
def Ctx : sProp 𝕄 :=
  iprop(levAts Lx lv ∗ bigSep Finset.univ (fun p : Dev nD × CK => cellInv ER (Rd X Wt) (K p) (cell p.1 p.2))
    ∗ bigSep Finset.univ (fun p : Dev nD × CK => reached ER (cell p.1 p.2) 0)
    ∗ bigSep Finset.univ (fun k : Key => slotInv EL (κ k) k (own1 k.1 (recvV k.2.1 k.2.2))))

instance Ctx_persistent : BI.Persistent (Ctx X Wt K κ) := by unfold Ctx; infer_instance

theorem Ctx_lev : Ctx X Wt K κ ⊢ levAts Lx lv := by unfold Ctx; iintro ⟨H, -⟩; iexact H
theorem Ctx_cell (d : Dev nD) (k : CK) : Ctx X Wt K κ ⊢ cellInv ER (Rd X Wt) (K (d, k)) (cell d k) := by
  unfold Ctx; iintro ⟨-, H, -⟩
  iapply (bigSep_get (A := Dev nD × CK) (Φ := fun p : Dev nD × CK => cellInv ER (Rd X Wt) (K p) (cell p.1 p.2)) (d, k) (Finset.mem_univ _)) $$ H
theorem Ctx_reached (d : Dev nD) (k : CK) : Ctx X Wt K κ ⊢ reached ER (cell d k) 0 := by
  unfold Ctx; iintro ⟨-, -, H, -⟩
  iapply (bigSep_get (A := Dev nD × CK) (Φ := fun p : Dev nD × CK => (reached ER (cell p.1 p.2) 0 : sProp 𝕄)) (d, k) (Finset.mem_univ _)) $$ H
theorem Ctx_slot (k : Key) : Ctx X Wt K κ ⊢ slotInv EL (κ k) k (own1 k.1 (recvV k.2.1 k.2.2)) := by
  unfold Ctx; iintro ⟨-, -, -, H⟩
  iapply (bigSep_get (Φ := fun k : Key => slotInv EL (κ k) k (own1 k.1 (recvV k.2.1 k.2.2))) k (Finset.mem_univ k)) $$ H

variable (L : Lane) (d : Dev nD) (O : CellTallies nD τ sig ℕ) (Q : Post F) (k : Pgm F)

/-! ## The lane's tokens -/

/-- What hop `h` spends when sent. -/
def hopTok (h : ℕ) : sProp 𝕄 :=
  iprop(dutyTok ER (cell d (kSend L (sl3 h))) (h / 3) 0 ∗ dutyTok ER (cell (dst L d) (kRecv L (sl3 h))) (h / 3) 0
    ∗ writeTok EL (dst L d, L, sl3 h) (h / 3 + 1))
/-- What credit `i` spends when given. -/
def credTok (i : ℕ) : sProp 𝕄 := dutyTok ER (cell (src L d) (kCred L)) 0 i
/-- What the `n`-th flush spends: its duty, and the chunk of the result it writes. -/
def flTok (n : ℕ) : sProp 𝕄 := iprop(dutyTok ER (cell d (kCopy L (sl2 n))) (n / 2) 0 ∗ own1 d (outV L d n))
/-- What waiting for hop `h`, for credit `i`, spends. -/
def inCred (h : ℕ) : sProp 𝕄 := cred (tallyAt (cell d (kRecv L (sl3 h))) h N)
def crCred (i : ℕ) : sProp 𝕄 := cred (tallyAt (cell d (kCred L)) i 1)
def sentCred (h : ℕ) : sProp 𝕄 := cred (tallyAt (cell d (kSend L (sl3 h))) 0 N)

/-- The cells of hop `h`'s slot are at hop `h`'s round. -/
def hpos (h : ℕ) : sProp 𝕄 :=
  iprop(atPos ER (cell d (kSend L (sl3 h))) (h / 3) ∅ 0 ∗ reached ER (cell d (kSend L (sl3 h))) (h / 3)
    ∗ atPos ER (cell d (kRecv L (sl3 h))) (h / 3) ∅ 0 ∗ reached ER (cell d (kRecv L (sl3 h))) (h / 3))
def fpos (n : ℕ) : sProp 𝕄 :=
  iprop(atPos ER (cell d (kCopy L (sl2 n))) (n / 2) ∅ 0 ∗ reached ER (cell d (kCopy L (sl2 n))) (n / 2))
/-- The reader's hold of hop `h`'s slot. -/
def rdr (h : ℕ) : sProp 𝕄 := readerAt EL (d, L, sl3 h) (h / 3 + 1)
/-- `m` credits have been waited for. -/
def credSt (m : ℕ) : sProp 𝕄 :=
  iprop(∃ S : Finset ℕ, ⌜S ⊆ Finset.range 27 ∧ m ≤ S.card⌝ ∗ atPos ER (cell d (kCred L)) 0 S m
    ∗ bigSep S (fun t => credFacts L (dst L d) (t + 1)))

/-! ## Waiting for a hop -/

theorem payload_recv (h : ℕ) : (Rd X Wt).payload (cell d (kRecv L (sl3 h))) (h / 3) 0 = recvPay X Wt L d h := by
  rw [Rd_payload]
  show recvPay X Wt L d (3 * (h / 3) + h % 3) = _
  rw [Nat.div_add_mod]
theorem payload_send (h : ℕ) : (Rd X Wt).payload (cell d (kSend L (sl3 h))) (h / 3) 0 = sendPay L d h := by
  rw [Rd_payload]
  show sendPay L d (3 * (h / 3) + h % 3) = _
  rw [Nat.div_add_mod]
theorem payload_copy (n : ℕ) : (Rd X Wt).payload (cell d (kCopy L (sl2 n))) (n / 2) 0 = copyPay X Wt L d n := by
  rw [Rd_payload]
  show copyPay X Wt L d (2 * (n / 2) + n % 2) = _
  rw [Nat.div_add_mod]
theorem duties_send {h : ℕ} (hh : h < 30) : (Rd X Wt).duties (cell d (kSend L (sl3 h))) (h / 3) = {0} := by
  rw [Rd_duties]; exact if_pos (by omega)
theorem duties_recv {h : ℕ} (hh : h < 30) : (Rd X Wt).duties (cell d (kRecv L (sl3 h))) (h / 3) = {0} := by
  rw [Rd_duties]; exact if_pos (by omega)
theorem duties_copy {n : ℕ} (hn : n < 16) : (Rd X Wt).duties (cell d (kCopy L (sl2 n))) (n / 2) = {0} := by
  rw [Rd_duties]; exact if_pos (by omega)
theorem expect_one {c : Dev nD} {q : CK} {r : ℕ} (h : (Rd X Wt).duties (cell c q) r = {0}) : (Rd X Wt).expect (cell c q) r = amountK q := by
  rw [Rd_expect, ← Rd_duties X Wt c q r, h]; simp

theorem wait_hw {sp sp' : Space} {s s' : Shape} {e e' : EltTy} {sem : DmaSem sig} {V₁ : Memref sig .tc sp' s' e'} {V₂ : Memref sig .tc sp s e}
    {e₁ : V₁.view.WordExact} {e₂ : V₂.view.WordExact} {n : ℕ} (h : V₂.view.dmaCredit = n) (P : Post F) :
    wpE (defs₀ (F := F)) 𝒱₀ (d : Thread nD τ) none Set.univ (.waitDma2 sem V₁ V₂ e₁ e₂) P
      = waitSpec (d : Thread nD τ) Set.univ (.dma sem) n P := by subst h; rfl

theorem Ctx_wait {q : CK} {u n : ℕ} (hu : u < 30) (hl : levK q u ≤ n) (hO : Above n O) :
    Ctx X Wt K κ ⊢ MayWait (d : Thread nD τ) (csem q) u O := by
  have h1 : (levAts Lx lv : sProp 𝕄) ⊢ MayWait (d : Thread nD τ) (csem q) u O := mayWait hu hl hO
  exact (Ctx_lev X Wt K κ).trans h1

/-- A wait for a whole round of one duty. -/
theorem wp_wait_one {q : CK} {r u n : ℕ} {w : TpuEff nD τ sig (Elt F) Λ₀ .tc PUnit} {pay : sProp 𝕄}
    (hw : ∀ P : PUnit.{1} → sProp 𝕄, wpE (defs₀ (F := F)) 𝒱₀ (d : Thread nD τ) none Set.univ w P
      = waitSpec (d : Thread nD τ) Set.univ (csem q) (amountK q) P)
    (hd : (Rd X Wt).duties (cell d q) r = {0}) (hp : (Rd X Wt).payload (cell d q) r 0 = pay)
    (hu : u < 30) (hl : levK q u ≤ n) (hO : Above n O) :
    iprop(Ctx X Wt K κ ∗ cred (tallyAt (cell d q) u (amountK q)) ∗ owing d O ∗ atPos ER (cell d q) r ∅ 0)
      ⊢ iprop(((owing d O ∗ atPos ER (cell d q) (r + 1) ∅ 0 ∗ reached ER (cell d q) (r + 1) ∗ pay) -∗ WP d k Q)
          -∗ WP d (.op w fun _ => k) Q) := by
  iintro ⟨#HC, Hc, HO, Hat⟩ Hk
  unfold owing
  icases HO with ⟨%W, HO⟩
  iapply (Rounds.wp_wait_rest_token 𝒱₀ ER (Rd X Wt) (d : Thread nD τ) none (κ := K (d, q)) (sm := csem q) hw (Set.mem_univ _) u
    (O := O) (W := W) (R := r) (m := 0) (T := ∅) ((Nat.zero_add _).trans (expect_one X Wt hd).symm)) $$ [Hc HO Hat]
  · isplitr; · iapply (Ctx_cell X Wt K κ d q) $$ HC
    isplitl [Hc]; · iexact Hc
    isplitl [HO]; · iexact HO
    isplitr
    · iapply (Ctx_wait X Wt K κ d O (q := q) hu hl hO) $$ HC
    iexact Hat
  iintro ⟨HO, Hat, Hr, Hp⟩
  iapply Hk
  isplitl [HO]; · iexists _; iexact HO
  isplitl [Hat]; · iexact Hat
  isplitl [Hr]; · iexact Hr
  have e : bigSep ((Rd X Wt).duties (cell d q) r \ ∅) (fun t => (Rd X Wt).payload (cell d q) r t) = pay := by
    rw [hd, Finset.sdiff_empty, bigSep_singleton, hp]
  ihave Hp' := (Entails.of_eq e) $$ Hp
  iexact Hp'

theorem wp_waitHop {h : ℕ} {V₁ V₂ V₃ V₄ : Memref sig .tc .vmem S256x2048 .bf16} {e₁ e₂ e₃ e₄}
    (h₂ : V₂.view.dmaCredit = N) (h₄ : V₄.view.dmaCredit = N) (hh : h < 30) (hO : Above (10 * h + 10) O) :
    iprop(Ctx X Wt K κ ∗ owing d O ∗ hpos L d h ∗ sentCred L d h ∗ inCred L d h)
      ⊢ iprop(((owing d O ∗ hpos L d (h + 3) ∗ sendPay L d h ∗ recvPay X Wt L d h) -∗ WP d k Q)
          -∗ WP d (.op (.waitDma2 (sendQ L (sl3 h)) V₁ V₂ e₁ e₂) fun _ => .op (.waitDma2 (recvQ L (sl3 h)) V₃ V₄ e₃ e₄) fun _ => k) Q) := by
  iintro ⟨#HC, HO, Hp, Hs, Hi⟩ Hk
  unfold hpos sentCred inCred
  rw [sl3_add, Nat.add_div_right h (by decide)]
  icases Hp with ⟨Ha, #Hra, Hb, #Hrb⟩
  iapply (wp_wait_one X Wt K κ d O Q _ (q := kSend L (sl3 h)) (u := 0) (n := 10 * h + 10)
    (wait_hw d h₂) (duties_send X Wt L d hh) (payload_send X Wt L d h)
    (by decide) (Nat.zero_le _) hO) $$ [HO Ha Hs]
  · isplitr; · iexact HC
    isplitl [Hs]; · iexact Hs
    isplitl [HO] <;> iassumption
  iintro ⟨HO, Ha, Hra', Hps⟩
  iapply (wp_wait_one X Wt K κ d O Q _ (q := kRecv L (sl3 h)) (u := h) (n := 10 * h + 10)
    (wait_hw d h₄) (duties_recv X Wt L d hh) (payload_recv X Wt L d h)
    hh le_rfl hO) $$ [HO Hb Hi]
  · isplitr; · iexact HC
    isplitl [Hi]; · iexact Hi
    isplitl [HO] <;> iassumption
  iintro ⟨HO, Hb, Hrb', Hpr⟩
  iapply Hk
  isplitl [HO]; · iexact HO
  isplitl [Ha Hra' Hb Hrb']
  · isplitl [Ha]; · iexact Ha
    isplitl [Hra']; · iexact Hra'
    isplitl [Hb] <;> iassumption
  isplitl [Hps] <;> iassumption

theorem wp_waitHopS {h : ℕ} (hh : h < 30) (hO : Above (10 * h + 10) O) :
    iprop(Ctx X Wt K κ ∗ owing d O ∗ hpos L d h ∗ sentCred L d h ∗ inCred L d h)
      ⊢ iprop(((owing d O ∗ hpos L d (h + 3) ∗ sendPay L d h ∗ recvPay X Wt L d h) -∗ WP d k Q) -∗ WP d (waitHopS L (sl3 h) k) Q) :=
  wp_waitHop X Wt K κ L d O Q k (N_send L _) (N_recv L _) hh hO
theorem wp_waitHopR {h : ℕ} {i : Fin 3} (hh : h < 30) (hO : Above (10 * h + 10) O) :
    iprop(Ctx X Wt K κ ∗ owing d O ∗ hpos L d h ∗ sentCred L d h ∗ inCred L d h)
      ⊢ iprop(((owing d O ∗ hpos L d (h + 3) ∗ sendPay L d h ∗ recvPay X Wt L d h) -∗ WP d k Q) -∗ WP d (waitHopR L i (sl3 h) k) Q) :=
  wp_waitHop X Wt K κ L d O Q k (N_recv L _) (N_recv L _) hh hO

/-! ## Sending a hop -/

/-- Hop `h`'s cells are at its round, on this device, on the next, and the slot there has been put back. -/
def ready (h : ℕ) : sProp 𝕄 :=
  iprop(reached ER (cell d (kSend L (sl3 h))) (h / 3) ∗ reached ER (cell (dst L d) (kRecv L (sl3 h))) (h / 3)
    ∗ released EL (dst L d, L, sl3 h) (h / 3 + 1))
instance ready_persistent (h : ℕ) : BI.Persistent (ready L d h : sProp 𝕄) := by unfold ready; infer_instance

/-- A send of hop `h` from a memref of a chunk's shape. -/
theorem wp_put {h : ℕ} {V : Memref sig .tc .vmem S256x2048 .bf16} {hs hsc hr hq} {q : PosShare TreeShare}
    {fs : Buf (Elt F) (V.view.loc (d : Thread nD τ))} (hh : h < 30) {O₀ : CellTallies nD τ sig ℕ}
    (hO : O₀ = O + tallyAt (cell (dst L d) (kRecv L (sl3 h))) h N)
    (hpay : (V.view.loc (d : Thread nD τ) ↦[V.view.set]{q} fs) ⊢ (sendPay L d h : sProp 𝕄))
    (hv : V.view.read (Elt F) fs = arr X Wt L (dst L d) h) :
    iprop(Ctx X Wt K κ ∗ (V.view.loc (d : Thread nD τ) ↦[V.view.set]{q} fs) ∗ owing d O₀ ∗ hopTok L d h ∗ ready L d h)
      ⊢ iprop(((sentCred L d h ∗ owing d O) -∗ WP d k Q)
          -∗ WP d (.op (.enqueueDma V (.remote (Dev.tc (dst L d)) (recvV L (sl3 h)) (.dma (sendQ L (sl3 h))) hsc) (.dma (recvQ L (sl3 h)))
              hs hr hq) fun _ => k) Q) := by
  iintro ⟨#HC, Hs, HO, Ht, #HR⟩ Hk
  unfold hopTok ready owing
  icases Ht with ⟨Ht1, Ht2, Hw⟩
  icases HR with ⟨#Hr1, #Hr2, #Hrel⟩
  icases HO with ⟨%W, HO⟩
  imod (slot_take EL (Set.mem_univ (κ (dst L d, L, sl3 h))) (k := (dst L d, L, sl3 h)) (S := own1 (dst L d) (recvV L (sl3 h))) (h / 3 + 1)) $$ [Hw] with Hd
  · isplitr; · iapply (Ctx_slot X Wt K κ (dst L d, L, sl3 h)) $$ HC
    isplitr; · iexact Hrel
    iexact Hw
  unfold own1 slot
  icases Hd with ⟨%fd, Hd⟩
  iapply (Rounds.wp_send_pointsTo 𝒱₀ ER (Rd X Wt) (d : Thread nD τ) none (c' := (Dev.tc (dst L d) : Thread nD τ)) (src := V) (dst := recvV L (sl3 h))
      (κ₁ := K (d, kSend L (sl3 h))) (κ₂ := K (dst L d, kRecv L (sl3 h))) (sS := .dma (sendQ L (sl3 h))) (sem := .dma (recvQ L (sl3 h)))
      (r₁ := h / 3) (r₂ := h / 3) (d₁ := 0) (d₂ := 0) (fs := fs) (fd := fd)
      ((duties_send X Wt L d hh).symm ▸ Finset.mem_singleton_self 0) ((duties_recv X Wt L (dst L d) hh).symm ▸ Finset.mem_singleton_self 0) h 0 N
      (N_recv L (sl3 h)) (Rd_amount X Wt d (kSend L (sl3 h)) _ _) (Rd_amount X Wt (dst L d) (kRecv L (sl3 h)) _ _) O hO (W := W)
      (hpay.trans (Entails.of_eq (payload_send X Wt L d h).symm))
      (by
        refine BIBase.Entails.trans ?_ (Entails.of_eq (payload_recv X Wt L (dst L d) h).symm)
        unfold recvPay ownV
        iintro H
        iexists ((recvV L (sl3 h)).view.write (Elt F) fd (V.view.read (Elt F) fs) Finset.univ)
        isplitr
        · ipureintro; exact (View.read_write_univ _ _).trans hv
        iexact H)) $$ [Hs Hd HO Ht1 Ht2]
  · isplitr; · iapply (Ctx_cell X Wt K κ d (kSend L (sl3 h))) $$ HC
    isplitr; · iapply (Ctx_cell X Wt K κ (dst L d) (kRecv L (sl3 h))) $$ HC
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  unfold sentCred
  isplitl [Hc]; · iexact Hc
  iexists W; iexact HO

theorem wp_putS {h : ℕ} (hh : h ≤ 15) {v : FVec F S256x2048 .bf16} (hv : v = arr X Wt L (dst L d) h) :
    iprop(Ctx X Wt K κ ∗ ownV d (sendV L (sl3 h)) fullShare v ∗ owing d (O + owH L d h) ∗ hopTok L d h ∗ ready L d h)
      ⊢ iprop(((sentCred L d h ∗ owing d (O + owH L d (h + 1))) -∗ WP d k Q) -∗ WP d (putS L d (sl3 h) k) Q) := by
  iintro ⟨#HC, Hs, HO, Ht, #HR⟩ Hk
  unfold ownV putS
  icases Hs with ⟨%f, %hf, Hs⟩
  iapply (wp_put X Wt K κ L d (O + owH L d (h + 1)) Q k (V := sendV L (sl3 h)) (q := fullShare) (fs := f) (h := h) (by omega)
    (O₀ := O + owH L d h) (by rw [owH_succ L d (show h < 30 by omega), add_assoc])
    (by
      unfold sendPay own1 slot; rw [if_pos hh]
      iintro H; iexists f; iexact H) (hf.trans hv)) $$ [Hs HO Ht]
  · isplitr; · iexact HC
    isplitl [Hs]; · iexact Hs
    isplitl [HO]; · iexact HO
    isplitl [Ht]; · iexact Ht
    iexact HR
  iexact Hk

theorem wp_putR {h : ℕ} (hh : 15 ≤ h) (hh' : h + 1 < 30) {f : Buf (Elt F) ((recvV L (sl3 h)).view.loc (d : Thread nD τ))}
    (hv : (recvV L (sl3 h)).view.read (Elt F) f = arr X Wt L (dst L d) (h + 1)) :
    iprop(Ctx X Wt K κ ∗ ((recvV L (sl3 h)).view.loc (d : Thread nD τ) ↦[(recvV L (sl3 h)).view.set]{fullShare.left} f)
        ∗ owing d (O + owH L d (h + 1)) ∗ hopTok L d (h + 1) ∗ ready L d (h + 1))
      ⊢ iprop(((sentCred L d (h + 1) ∗ owing d (O + owH L d (h + 2))) -∗ WP d k Q) -∗ WP d (putR L d (sl3 h) (sl3 (h + 1)) k) Q) := by
  iintro ⟨#HC, Hs, HO, Ht, #HR⟩ Hk
  unfold putR
  iapply (wp_put X Wt K κ L d (O + owH L d (h + 2)) Q k (V := recvV L (sl3 h)) (q := fullShare.left) (fs := f) (h := h + 1) (by omega)
    (O₀ := O + owH L d (h + 1)) (by rw [owH_succ L d hh', ← add_assoc])
    (by
      unfold sendPay; rw [if_neg (by omega), Nat.add_sub_cancel]
      iintro H; iexists f; iexact H) hv) $$ [Hs HO Ht]
  · isplitr; · iexact HC
    isplitl [Hs]; · iexact Hs
    isplitl [HO]; · iexact HO
    isplitl [Ht]; · iexact Ht
    iexact HR
  iexact Hk

/-! ## Credits -/

/-- A wait for the next credit. -/
theorem wp_credWait {m : ℕ} (hm : m < 27) (hO : Above (10 * m + 25) O) :
    iprop(Ctx X Wt K κ ∗ owing d O ∗ credSt L d m ∗ crCred L d m)
      ⊢ iprop(((owing d O ∗ credSt L d (m + 1) ∗ credFact L (dst L d) m) -∗ WP d k Q) -∗ WP d (credWait L k) Q) := by
  iintro ⟨#HC, HO, Hst, Hcr⟩ Hk
  unfold credSt crCred owing credWait
  icases HO with ⟨%W, HO⟩
  icases Hst with ⟨%S, %hS, Hat, #HF⟩
  iapply (Rounds.wp_wait 𝒱₀ ER (Rd X Wt) (d : Thread nD τ) none (κ := K (d, kCred L)) (sm := csem (kCred L))
    (wpE_semWait_eq 𝒱₀ (d : Thread nD τ) none Set.univ) (Set.mem_univ _) (cr := Finsupp.single m 1) (O := O) (W := W) {(csem (kCred L), m)} (R := 0) (m := m) (T := S)
    (by rw [Util.total_single]; rfl) (image_single_subset _ m 1)) $$ [Hcr HO Hat]
  · isplitr; · iapply (Ctx_cell X Wt K κ d (kCred L)) $$ HC
    isplitl [Hcr]; · iexact Hcr
    isplitl [HO]; · iexact HO
    isplitr
    · iapply (Ctx_wait X Wt K κ d O (q := kCred L) (u := m) (n := 10 * m + 25) (by omega) le_rfl hO) $$ HC
    iexact Hat
  iintro %S' ⟨%hS', HO, Hat, Hp⟩
  obtain ⟨h1, h2, h3⟩ := hS'
  rw [Rd_duties] at h2 h3
  rw [Rd_expect] at h3
  have hd : dutiesK (kCred L) 0 = Finset.range 27 := rfl
  rw [hd] at h2 h3
  have h4 : (Finset.range 27 \ S').card = 27 - S'.card := by rw [Finset.card_sdiff_of_subset h2, Finset.card_range]
  have h5 : S'.card ≤ 27 := (Finset.card_le_card h2).trans (Finset.card_range 27).le
  have h6 : m + 1 ≤ S'.card := by
    have e : (Finset.range 27).card * amountK (kCred L) = 27 := by rw [Finset.card_range]; rfl
    have e' : ((1#32 : BitVec 32).toInt.toNat) = 1 := rfl
    rw [h4, e] at h3
    have h7 : m + 1 + (27 - S'.card) ≤ 27 := h3
    omega
  obtain ⟨t, ht, hmt⟩ : ∃ t ∈ S', m ≤ t := by
    by_contra hc
    push Not at hc
    have : S' ⊆ Finset.range m := fun t ht => Finset.mem_range.2 (hc t ht)
    have := (Finset.card_le_card this).trans (Finset.card_range m).le
    omega
  have e : bigSep (S' \ S) (fun t => (Rd X Wt).payload (csem (kCred L) |> fun s => ((d : Thread nD τ), s)) 0 t)
      = bigSep (S' \ S) (fun t => credFacts L (dst L d) (t + 1)) := bigSep_congr fun t _ => Rd_payload X Wt d (kCred L) 0 t
  ihave Hp' := (Entails.of_eq e) $$ Hp
  icases Hp' with #HF'
  have e2 : bigSep S' (fun t => (credFacts L (dst L d) (t + 1) : sProp 𝕄))
      = iprop(bigSep (S' \ S) (fun t => credFacts L (dst L d) (t + 1)) ∗ bigSep S (fun t => credFacts L (dst L d) (t + 1))) := bigSep_parts h1 _
  ihave HA := (Entails.of_eq e2.symm) $$ []
  · isplitl <;> iassumption
  icases HA with #HA
  iapply Hk
  isplitl [HO]; · iexists _; iexact HO
  isplitl [Hat]
  · iexists S'
    isplitr; · ipureintro; exact ⟨h2, h6⟩
    isplitl [Hat]; · iexact Hat
    iexact HA
  ihave H1 := (bigSep_get (Φ := fun t => (credFacts L (dst L d) (t + 1) : sProp 𝕄)) t ht) $$ HA
  unfold credFacts
  iapply (bigSep_get (Φ := credFact L (dst L d)) m (Finset.mem_range.2 (Nat.lt_succ_of_le hmt))) $$ H1

/-- A receive slot put back for its writer. -/
theorem putBack {n : ℕ} (j : Fin 3) :
    iprop(Ctx X Wt K κ ∗ readerAt EL (d, L, j) n ∗ own1 d (recvV L j))
      ⊢ (|={Set.univ}=> (readerAt EL (d, L, j) (n + 1) ∗ released EL (d, L, j) (n + 1)) : sProp 𝕄) := by
  iintro ⟨#HC, Hr, Hs⟩
  iapply (slot_release EL (Set.mem_univ (κ (d, L, j))) (k := (d, L, j)) (S := own1 d (recvV L j))
    (slot_slot_false ⟨_, View.emb_mem_set (recvV L j).view (fun a => ⟨0, by revert a; decide⟩)⟩) n)
  isplitr; · iapply (Ctx_slot X Wt K κ (d, L, j)) $$ HC
  isplitl [Hr] <;> iassumption

/-- A slot that has been read is put back and credit `i` given for it. -/
theorem wp_credSig {i : ℕ} (hi : i < 27) :
    iprop(Ctx X Wt K κ ∗ own1 d (recvV L (sl3 i)) ∗ rdr L d i ∗ credFacts L d i ∗ reached ER (cell d (kRecv L (sl3 i))) (i / 3 + 1)
        ∗ credTok L d i ∗ owing d (O + owC L d i))
      ⊢ iprop(((credFacts L d (i + 1) ∗ rdr L d (i + 3) ∗ owing d (O + owC L d (i + 1))) -∗ WP d k Q) -∗ WP d (credSig L d k) Q) := by
  iintro ⟨#HC, Hs, Hr, #HF, #Hre, Ht, HO⟩ Hk
  unfold rdr credTok owing credSig
  rw [sl3_add, Nat.add_div_right i (by decide)]
  icases HO with ⟨%W, HO⟩
  imod (putBack X Wt K κ L d (sl3 i)) $$ [Hs Hr] with ⟨Hr, #Hrel⟩
  · isplitr; · iexact HC
    isplitl [Hr] <;> iassumption
  have hf : iprop(credFact L d i ∗ credFacts L d i) ⊢ (credFacts L d (i + 1) : sProp 𝕄) :=
    Entails.of_eq (bigSep_last i _).symm
  ihave HF' := hf $$ []
  · isplitl
    · unfold credFact; isplitl <;> iassumption
    iexact HF
  icases HF' with #HF'
  have hO : O + owC L d i = O + owC L d (i + 1) + tallyAt (cell (src L d) (kCred L)) i 1 := by rw [owC_succ L d hi, add_assoc]
  have hp : credFacts L d (i + 1) ⊢ (Rd X Wt).payload (cell (src L d) (kCred L)) 0 i := by
    rw [Rd_payload]
    show credFacts L d (i + 1) ⊢ credFacts L (dst L (src L d)) (i + 1)
    rw [dst_src]
  iapply (Rounds.wp_signal 𝒱₀ ER (Rd X Wt) (d : Thread nD τ) none (dst := (src L d, .tc)) (κ := K (src L d, kCred L)) (r := 0) (d := i)
    (by rw [show ((src L d, Idealize.ShloMosaic.Proc.tc), SemLoc.reg (credQ L)) = cell (src L d) (kCred L) from rfl, Rd_duties]; exact Finset.mem_range.2 hi)
    (Rd_amount X Wt (src L d) (kCred L) 0 i) i (O + owC L d (i + 1)) hO (W := W)) $$ [HO Ht]
  · isplitr; · iapply (Ctx_cell X Wt K κ (src L d) (kCred L)) $$ HC
    isplitl [HO]; · iexact HO
    isplitl [Ht]; · iexact Ht
    isplitr
    · iapply hp $$ HF'
    iapply (Ctx_reached X Wt K κ (src L d) (kCred L)) $$ HC
  iintro HO
  iapply Hk
  isplitr; · iexact HF'
  isplitl [Hr]; · iexact Hr
  iexists W; iexact HO

/-! ## The loads and stores -/

/-- The two arguments' blocks, as fetched. -/
def ins : sProp 𝕄 :=
  iprop((xM.view.loc (d : Thread nD τ) ↦[Finset.univ]{fullShare} X d) ∗ wM.view.loc (d : Thread nD τ) ↦[Finset.univ]{fullShare} Wt d)

theorem wp_ldX0 {k : Vec F S256x256 .bf16 → Pgm F} :
    ins X Wt d ⊢ iprop((ins X Wt d -∗ WP d (k (xM.view.readAt (Elt F)
        (Rect.unit (s := S4096x256) (k0_off1 d) S256x256.size (k0_off1_inb d)).toLoadRect (X d))) Q) -∗ WP d (ldX0 d k) Q) := by
  unfold ins ldX0
  iintro ⟨Hx, Hw⟩ Hk
  iapply (wp_load 𝒱₀ (d : Thread nD τ) none Set.univ (m := xM) (S := Finset.univ) (f := X d) (Finset.subset_univ _)) $$ Hx
  iintro Hx
  iapply Hk
  isplitl [Hx] <;> iassumption
theorem wp_ldX (s : ℕ) {k : Vec F S256x256 .bf16 → Pgm F} :
    ins X Wt d ⊢ iprop((ins X Wt d -∗ WP d (k (xM.view.readAt (Elt F)
        (Rect.unit (s := S4096x256) (xOff L d s) S256x256.size (xOff_inb L d s)).toLoadRect (X d))) Q) -∗ WP d (ldX L d s k) Q) := by
  unfold ins ldX
  iintro ⟨Hx, Hw⟩ Hk
  iapply (wp_load 𝒱₀ (d : Thread nD τ) none Set.univ (m := xM) (S := Finset.univ) (f := X d) (Finset.subset_univ _)) $$ Hx
  iintro Hx
  iapply Hk
  isplitl [Hx] <;> iassumption
theorem wp_ldW {k : Vec F S256x2048 .bf16 → Pgm F} :
    ins X Wt d ⊢ iprop((ins X Wt d -∗ WP d (k (wM.view.readAt (Elt F)
        (Rect.unit (s := S256x8192) ![0, col L] S256x2048.size (col_inb L)).toLoadRect (Wt d))) Q) -∗ WP d (ldW L k) Q) := by
  unfold ins ldW
  iintro ⟨Hx, Hw⟩ Hk
  iapply (wp_load 𝒱₀ (d : Thread nD τ) none Set.univ (m := wM) (S := Finset.univ) (f := Wt d) (Finset.subset_univ _)) $$ Hw
  iintro Hw
  iapply Hk
  isplitl [Hx] <;> iassumption

theorem set_send (j : Fin 3) : ((sendM L).access (rect3 j)).set = (sendV L j).view.set := (View.set_reshape _ _).symm
theorem set_recv (j : Fin 3) : ((recvM L).access (rect3 j)).set = (recvV L j).view.set := (View.set_reshape _ _).symm
theorem set_stage (j : Fin 2) : ((stageM L).access (rect2 j)).set = (stageV L j).view.set := (View.set_reshape _ _).symm

theorem down_up {t : FTy} (v : FVec F S256x2048 t) : down (up v) = v := by
  funext j
  show v (Shape.reshapeEquiv _ (Shape.reshapeEquiv _ j)) = v j
  rw [Shape.reshapeEquiv_reshapeEquiv, Shape.reshapeEquiv_self]

theorem wp_ldRecv (j : Fin 3) {q : PosShare TreeShare} {f : Buf (Elt F) ((recvV L j).view.loc (d : Thread nD τ))}
    {v : FVec F S256x2048 .bf16} (hv : (recvV L j).view.read (Elt F) f = v) {k : Vec F S1x256x2048 .bf16 → Pgm F} :
    ((recvV L j).view.loc (d : Thread nD τ) ↦[(recvV L j).view.set]{q} f)
      ⊢ iprop((∀ r, ⌜down (F := F) (t := .bf16) r = v⌝ -∗ ((recvV L j).view.loc (d : Thread nD τ) ↦[(recvV L j).view.set]{q} f) -∗ WP d (k r) Q)
          -∗ WP d (ldRecv L j k) Q) := by
  iintro H Hk
  unfold ldRecv
  iapply (wp_load_rect 𝒱₀ (d : Thread nD τ) none Set.univ (m := recvM L) (r := rect3 j) (S := (recvV L j).view.set) (f := f) (set_recv L j).subset) $$ H
  iintro H
  iapply Hk $$ %_ [] H
  ipureintro; exact hv

theorem wp_ldSend (j : Fin 3) {k : Vec F S1x256x2048 .bf16 → Pgm F} :
    own1 d (sendV L j) ⊢ iprop((∀ r, own1 d (sendV L j) -∗ WP d (k r) Q) -∗ WP d (ldSend L j k) Q) := by
  unfold own1 slot ldSend
  iintro ⟨%f, H⟩ Hk
  iapply (wp_load_rect 𝒱₀ (d : Thread nD τ) none Set.univ (m := sendM L) (r := rect3 j) (S := (sendV L j).view.set) (f := f) (set_send L j).subset) $$ H
  iintro H
  iapply Hk $$ %_ [H]
  iexists f; iexact H
theorem wp_ldStage (j : Fin 2) {k : Vec F S1x256x2048 .f32 → Pgm F} :
    own1 d (stageV L j) ⊢ iprop((∀ r, own1 d (stageV L j) -∗ WP d (k r) Q) -∗ WP d (ldStage L j k) Q) := by
  unfold own1 slot ldStage
  iintro ⟨%f, H⟩ Hk
  iapply (wp_load_rect 𝒱₀ (d : Thread nD τ) none Set.univ (m := stageM L) (r := rect2 j) (S := (stageV L j).view.set) (f := f) (set_stage L j).subset) $$ H
  iintro H
  iapply Hk $$ %_ [H]
  iexists f; iexact H

theorem wp_stSend (j : Fin 3) (v : FVec F S256x2048 .bf16) :
    own1 d (sendV L j) ⊢ iprop((ownV d (sendV L j) fullShare v -∗ WP d k Q) -∗ WP d (stSend L j (up v) k) Q) := by
  unfold own1 slot stSend ownV
  iintro ⟨%f, H⟩ Hk
  iapply (wp_store 𝒱₀ (d : Thread nD τ) none Set.univ (m := sendM L) (r := rect3 j) (S := (sendV L j).view.set) (f := f) (set_send L j).subset) $$ H
  iintro H
  iapply Hk
  iexists _
  isplitr
  rotate_left
  · iexact H
  ipureintro
  exact (congrArg (down (F := F) (t := .bf16)) (View.read_write_univ (v := (sendM L).access (rect3 j)) f (up v))).trans (down_up v)
theorem wp_stStage (j : Fin 2) (v : FVec F S256x2048 .f32) :
    own1 d (stageV L j) ⊢ iprop((ownV d (stageV L j) fullShare v -∗ WP d k Q) -∗ WP d (stStage L j (up v) k) Q) := by
  unfold own1 slot stStage ownV
  iintro ⟨%f, H⟩ Hk
  iapply (wp_store 𝒱₀ (d : Thread nD τ) none Set.univ (m := stageM L) (r := rect2 j) (S := (stageV L j).view.set) (f := f) (set_stage L j).subset) $$ H
  iintro H
  iapply Hk
  iexists _
  isplitr
  rotate_left
  · iexact H
  ipureintro
  exact (congrArg (down (F := F) (t := .f32)) (View.read_write_univ (v := (stageM L).access (rect2 j)) f (up v))).trans (down_up v)

/-! ## The copies to the result -/

/-- The `n`-th flush: done with its staging slot, under way, done. -/
def idle (n : ℕ) : sProp 𝕄 := iprop(fpos L d n ∗ own1 d (stageV L (sl2 n)))
def flight (n : ℕ) : sProp 𝕄 := iprop(fpos L d n ∗ cred (tallyAt (cell d (kCopy L (sl2 n))) 0 M))
def outDone (n : ℕ) : sProp 𝕄 := ownV d (outV L d n) fullShare (outv X Wt L d n)

theorem wp_copyOut {n : ℕ} (hn : n < 16) {v : FVec F S256x2048 .f32} (hv : v = outv X Wt L d n) :
    iprop(Ctx X Wt K κ ∗ fpos L d n ∗ ownV d (stageV L (sl2 n)) fullShare v ∗ flTok L d n)
      ⊢ iprop((flight L d n -∗ WP d k Q) -∗ WP d (copyOut L d n k) Q) := by
  iintro ⟨#HC, Hp, Hs, Ht⟩ Hk
  unfold fpos flTok ownV own1 slot copyOut flight fpos
  icases Hp with ⟨Ha, #Hr⟩
  icases Hs with ⟨%f, %hf, Hs⟩
  icases Ht with ⟨Ht, %fd, Hd⟩
  iapply (Rounds.wp_copy_pointsTo 𝒱₀ ER (Rd X Wt) (d : Thread nD τ) none (src := stageV L (sl2 n)) (dst := outV L d n)
      (κ := K (d, kCopy L (sl2 n))) (sem := .dma (copyQ L (sl2 n))) (r := n / 2) (d := 0) (fs := f) (fd := fd) (q := fullShare)
      ((duties_copy X Wt L d hn).symm ▸ Finset.mem_singleton_self 0) 0 M (M_out L d n) (Rd_amount X Wt d (kCopy L (sl2 n)) _ _)
      (by
        refine BIBase.Entails.trans ?_ (Entails.of_eq (payload_copy X Wt L d n).symm)
        unfold copyPay ownV own1 slot
        iintro ⟨H1, H2⟩
        isplitl [H2]; · iexists f; iexact H2
        iexists ((outV L d n).view.write (Elt F) fd ((stageV L (sl2 n)).view.read (Elt F) f) Finset.univ)
        isplitr
        · ipureintro; exact (View.read_write_univ _ _).trans (hf.trans hv)
        iexact H1)) $$ [Hs Hd Ht]
  · isplitr; · iapply (Ctx_cell X Wt K κ d (kCopy L (sl2 n))) $$ HC
    isplitl [Hs]; · iexact Hs
    isplitl [Hd]; · iexact Hd
    isplitl [Ht]; · iexact Ht
    iexact Hr
  iintro Hc
  iapply Hk
  isplitl [Ha]
  · isplitl [Ha]; · iexact Ha
    iexact Hr
  iexact Hc

theorem wp_waitOut {n : ℕ} (hn : n < 16) (hO : Above 0 O) :
    iprop(Ctx X Wt K κ ∗ owing d O ∗ flight L d n)
      ⊢ iprop(((owing d O ∗ idle L d (n + 2) ∗ outDone X Wt L d n) -∗ WP d k Q) -∗ WP d (waitOut L d n k) Q) := by
  iintro ⟨#HC, HO, Hf⟩ Hk
  unfold flight idle fpos outDone
  rw [sl2_add, Nat.add_div_right n (by decide)]
  icases Hf with ⟨⟨Ha, -⟩, Hc⟩
  iapply (wp_wait_one X Wt K κ d O Q _ (q := kCopy L (sl2 n)) (u := 0) (n := 0)
    (wait_hw d (M_out L d n)) (duties_copy X Wt L d hn) (payload_copy X Wt L d n)
    (by decide) (Nat.zero_le _) hO) $$ [HO Ha Hc]
  · isplitr; · iexact HC
    isplitl [Hc]; · iexact Hc
    isplitl [HO] <;> iassumption
  iintro ⟨HO, Ha, Hr, Hp⟩
  unfold copyPay
  icases Hp with ⟨Hs, Hd⟩
  iapply Hk
  isplitl [HO]; · iexact HO
  isplitl [Ha Hr Hs]
  · isplitl [Ha Hr]
    · isplitl [Ha] <;> iassumption
    iexact Hs
  iexact Hd

end Cert.Ring
-- ==== Proof.Steps.lean ====
/-
  The steps of a lane, from the state before a step to the state after it.
-/
module

public import proofs.«01_k».proof.Proof.Ops

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## Flushes -/

/-- The flushes before the `n`-th: at most two are under way. -/
def flMid : ℕ → sProp 𝕄
  | 0 => iprop(idle L d 0 ∗ idle L d 1)
  | 1 => iprop(flight L d 0 ∗ idle L d 1)
  | n + 2 => iprop(flight L d n ∗ flight L d (n + 1))

/-- Before the `n`-th flush. -/
def flSt (n : ℕ) : sProp 𝕄 :=
  iprop(bigSep (Finset.Ico n 16) (flTok L d) ∗ bigSep (Finset.range (n - 2)) (outDone X Wt L d) ∗ flMid L d n)

/-- The `n`-th flush once its staging slot is free. -/
theorem wp_flushCore {n : ℕ} (hn : n < 16) {v : FVec F S256x2048 .f32} (hv : v = outv X Wt L d n) :
    iprop(Ctx X Wt K κ ∗ idle L d n ∗ flTok L d n)
      ⊢ iprop((flight L d n -∗ WP d k Q) -∗ WP d (ldStage L (sl2 n) fun _ => stStage L (sl2 n) (up v) <| copyOut L d n k) Q) := by
  iintro ⟨#HC, Hi, Ht⟩ Hk
  unfold idle
  icases Hi with ⟨Hp, Hs⟩
  iapply (wp_ldStage L d Q (sl2 n)) $$ Hs
  iintro %r Hs
  iapply (wp_stStage L d Q _ (sl2 n) v) $$ Hs
  iintro Hs
  iapply (wp_copyOut X Wt K κ L d Q k hn hv) $$ [Hp Hs Ht]
  · isplitr; · iexact HC
    isplitl [Hp]; · iexact Hp
    isplitl [Hs] <;> iassumption
  iexact Hk

theorem wp_flush {n : ℕ} (hn : n < 16) (hO : Above 0 O) {v : FVec F S256x2048 .f32} (hv : v = outv X Wt L d n) :
    iprop(Ctx X Wt K κ ∗ owing d O ∗ flSt X Wt L d n)
      ⊢ iprop(((owing d O ∗ flSt X Wt L d (n + 1)) -∗ WP d k Q) -∗ WP d (flush L d n (decide (2 ≤ n)) v k) Q) := by
  iintro ⟨#HC, HO, Hf⟩ Hk
  unfold flSt
  rw [bigSep_first hn]
  icases Hf with ⟨⟨Ht, Hts⟩, Hd, Hm⟩
  rcases n with _ | _ | n
  · rw [show flush L d 0 (decide (2 ≤ 0)) v k = (ldStage L (sl2 0) fun _ => stStage L (sl2 0) (up v) <| copyOut L d 0 k) from rfl]
    unfold flMid
    icases Hm with ⟨Hi, Hj⟩
    iapply (wp_flushCore X Wt K κ L d Q k hn hv) $$ [Hi Ht]
    · isplitr; · iexact HC
      isplitl [Hi] <;> iassumption
    iintro Hi
    iapply Hk
    isplitl [HO]; · iexact HO
    isplitl [Hts]; · iexact Hts
    isplitl [Hd]; · iexact Hd
    isplitl [Hi] <;> iassumption
  · rw [show flush L d (0 + 1) (decide (2 ≤ 0 + 1)) v k = (ldStage L (sl2 1) fun _ => stStage L (sl2 1) (up v) <| copyOut L d 1 k) from rfl]
    unfold flMid
    icases Hm with ⟨Hi, Hj⟩
    iapply (wp_flushCore X Wt K κ L d Q k hn hv) $$ [Hj Ht]
    · isplitr; · iexact HC
      isplitl [Hj] <;> iassumption
    iintro Hj
    iapply Hk
    isplitl [HO]; · iexact HO
    isplitl [Hts]; · iexact Hts
    isplitl [Hd]; · iexact Hd
    isplitl [Hi] <;> iassumption
  · have e : decide (2 ≤ n + 2) = true := decide_eq_true (Nat.le_add_left 2 n)
    rw [show n + 1 + 1 = n + 2 from rfl, e, show flush L d (n + 2) true v k
      = (waitOut L d n <| ldStage L (sl2 (n + 2)) fun _ => stStage L (sl2 (n + 2)) (up v) <| copyOut L d (n + 2) k) from rfl]
    unfold flMid
    icases Hm with ⟨Hi, Hj⟩
    iapply (wp_waitOut X Wt K κ L d O Q _ (n := n) (by omega) hO) $$ [HO Hi]
    · isplitr; · iexact HC
      isplitl [HO] <;> iassumption
    iintro ⟨HO, Hi, Hn⟩
    iapply (wp_flushCore X Wt K κ L d Q k hn hv) $$ [Hi Ht]
    · isplitr; · iexact HC
      isplitl [Hi] <;> iassumption
    iintro Hi
    iapply Hk
    isplitl [HO]; · iexact HO
    isplitl [Hts]; · iexact Hts
    isplitl [Hd Hn]
    · rw [show n + 2 + 1 - 2 = n + 1 by omega, show n + 2 - 2 = n by omega]
      iapply (Entails.of_eq (bigSep_last n (outDone X Wt L d)).symm)
      isplitl [Hn] <;> iassumption
    isplitl [Hj] <;> iassumption

/-! ## Hops -/

/-- Hop `s` is under way. -/
def mid (s : ℕ) : sProp 𝕄 :=
  iprop(sentCred L d s ∗ hpos L d s ∗ hpos L d (s + 1) ∗ hpos L d (s + 2) ∗ bigSep (Finset.Ico s 30) (inCred L d)
    ∗ bigSep (Finset.Ico (s + 1) 30) (hopTok L d) ∗ bigSep (Finset.Ico (s - 2) 27) (crCred L d) ∗ credSt L d (s - 2))
/-- Hop `s` has come, `m` credits have been waited for. -/
def mid1 (s m : ℕ) : sProp 𝕄 :=
  iprop(hpos L d (s + 1) ∗ hpos L d (s + 2) ∗ hpos L d (s + 3) ∗ bigSep (Finset.Ico (s + 1) 30) (inCred L d)
    ∗ bigSep (Finset.Ico (s + 1) 30) (hopTok L d) ∗ bigSep (Finset.Ico m 27) (crCred L d) ∗ credSt L d m)

theorem hpos_send (h : ℕ) : (hpos L d h : sProp 𝕄) ⊢ iprop(hpos L d h ∗ reached ER (cell d (kSend L (sl3 h))) (h / 3) ∗ reached ER (cell d (kRecv L (sl3 h))) (h / 3)) := by
  unfold hpos
  iintro ⟨Ha, #Hr, Hb, #Hs⟩
  isplitl
  · isplitl [Ha]; · iexact Ha
    isplitr; · iexact Hr
    isplitl [Hb]; · iexact Hb
    iexact Hs
  isplitl <;> iassumption

theorem sendPay_early {h : ℕ} (hh : h ≤ 15) : sendPay L d h = (own1 d (sendV L (sl3 (h + 3))) : sProp 𝕄) := by
  unfold sendPay; rw [if_pos hh, sl3_add]

theorem mid_wait {s : ℕ} {V₁ V₂ V₃ V₄ : Memref sig .tc .vmem S256x2048 .bf16} {e₁ e₂ e₃ e₄}
    (h₂ : V₂.view.dmaCredit = N) (h₄ : V₄.view.dmaCredit = N) (hs : s < 30) (hO : Above (10 * s + 10) O) :
    iprop(Ctx X Wt K κ ∗ owing d O ∗ mid L d s)
      ⊢ iprop(((owing d O ∗ mid1 L d s (s - 2) ∗ sendPay L d s ∗ recvPay X Wt L d s) -∗ WP d k Q)
          -∗ WP d (.op (.waitDma2 (sendQ L (sl3 s)) V₁ V₂ e₁ e₂) fun _ => .op (.waitDma2 (recvQ L (sl3 s)) V₃ V₄ e₃ e₄) fun _ => k) Q) := by
  iintro ⟨#HC, HO, Hm⟩ Hk
  unfold mid mid1
  rw [bigSep_first hs (inCred L d)]
  icases Hm with ⟨Hs, Hp0, Hp1, Hp2, ⟨Hi, His⟩, Hh, Hc, Hst⟩
  iapply (wp_waitHop X Wt K κ L d O Q k h₂ h₄ hs hO) $$ [HO Hs Hp0 Hi]
  · isplitr; · iexact HC
    isplitl [HO]; · iexact HO
    isplitl [Hp0]; · iexact Hp0
    isplitl [Hs] <;> iassumption
  iintro ⟨HO, Hp3, Hps, Hpr⟩
  iapply Hk
  isplitl [HO]; · iexact HO
  isplitr [Hps Hpr]
  · isplitl [Hp1]; · iexact Hp1
    isplitl [Hp2]; · iexact Hp2
    isplitl [Hp3]; · iexact Hp3
    isplitl [His]; · iexact His
    isplitl [Hh]; · iexact Hh
    isplitl [Hc] <;> iassumption
  isplitl [Hps] <;> iassumption

/-- The credit waited for before the next hop: the hop is ready. -/
theorem mid_cred {s : ℕ} (hs : 2 ≤ s) (hs' : s < 29) (hO : Above (10 * s + 5) O) :
    iprop(Ctx X Wt K κ ∗ owing d O ∗ mid1 L d s (s - 2))
      ⊢ iprop(((owing d O ∗ mid1 L d s (s - 1) ∗ ready L d (s + 1)) -∗ WP d k Q) -∗ WP d (credWait L k) Q) := by
  obtain ⟨m, rfl⟩ := Nat.exists_eq_add_of_le' hs
  rw [show m + 2 - 2 = m by omega, show m + 2 - 1 = m + 1 by omega]
  iintro ⟨#HC, HO, Hm⟩ Hk
  unfold mid1
  rw [bigSep_first (show m < 27 by omega) (crCred L d)]
  icases Hm with ⟨Hp1, Hp2, Hp3, His, Hh, ⟨Hc, Hcs⟩, Hst⟩
  iapply (wp_credWait X Wt K κ L d O Q k (m := m) (by omega) (hO.mono (by omega))) $$ [HO Hc Hst]
  · isplitr; · iexact HC
    isplitl [HO]; · iexact HO
    isplitl [Hst] <;> iassumption
  iintro ⟨HO, Hst, #Hf⟩
  ihave Hp1' := (hpos_send L d (m + 2 + 1)) $$ Hp1
  icases Hp1' with ⟨Hp1, #Hr, -⟩
  iapply Hk
  isplitl [HO]; · iexact HO
  isplitl
  · isplitl [Hp1]; · iexact Hp1
    isplitl [Hp2]; · iexact Hp2
    isplitl [Hp3]; · iexact Hp3
    isplitl [His]; · iexact His
    isplitl [Hh]; · iexact Hh
    isplitl [Hcs] <;> iassumption
  unfold ready credFact
  rw [show m + 2 + 1 = m + 3 from rfl, sl3_add, Nat.add_div_right m (by decide)]
  icases Hf with ⟨#H1, #H2⟩
  isplitr; · iexact Hr
  isplitr <;> iassumption

/-- The first three hops are ready from the start. -/
theorem ready_first {s : ℕ} (hs : s < 3) :
    iprop(Ctx X Wt K κ ∗ barFact L (dst L d)) ⊢ ready L d s := by
  iintro ⟨#HC, #HB⟩
  unfold ready barFact
  icases HB with ⟨#H0, #H1, #H2⟩
  rw [Nat.div_eq_of_lt hs]
  isplitr; · iapply (Ctx_reached X Wt K κ d (kSend L (sl3 s))) $$ HC
  isplitr; · iapply (Ctx_reached X Wt K κ (dst L d) (kRecv L (sl3 s))) $$ HC
  rcases (show s = 0 ∨ s = 1 ∨ s = 2 by omega) with rfl | rfl | rfl
  · iexact H0
  · iexact H1
  · iexact H2

theorem mid_put {s : ℕ} (hs : s < 29) :
    (mid1 L d s (s - 1) : sProp 𝕄) ⊢ iprop(hopTok L d (s + 1) ∗ (sentCred L d (s + 1) -∗ mid L d (s + 1))) := by
  unfold mid mid1
  rw [bigSep_first (show s + 1 < 30 by omega) (hopTok L d), show s + 1 - 2 = s - 1 by omega]
  iintro ⟨Hp1, Hp2, Hp3, His, ⟨Hh, Hhs⟩, Hc, Hst⟩
  isplitl [Hh]; · iexact Hh
  iintro Hs
  isplitl [Hs]; · iexact Hs
  isplitl [Hp1]; · iexact Hp1
  isplitl [Hp2]; · iexact Hp2
  isplitl [Hp3]; · iexact Hp3
  isplitl [His]; · iexact His
  isplitl [Hhs]; · iexact Hhs
  isplitl [Hc] <;> iassumption

/-- The credits given, from the `c`-th on. -/
def crSt (c : ℕ) : sProp 𝕄 := iprop(bigSep (Finset.Ico c 27) (credTok L d) ∗ credFacts L d c)

theorem cr_sig {c : ℕ} (hc : c < 27) :
    iprop(Ctx X Wt K κ ∗ own1 d (recvV L (sl3 c)) ∗ rdr L d c ∗ reached ER (cell d (kRecv L (sl3 (c + 3)))) ((c + 3) / 3)
        ∗ crSt L d c ∗ owing d (O + owC L d c))
      ⊢ iprop(((crSt L d (c + 1) ∗ rdr L d (c + 3) ∗ owing d (O + owC L d (c + 1))) -∗ WP d k Q) -∗ WP d (credSig L d k) Q) := by
  iintro ⟨#HC, Hs, Hr, #Hre, Hcr, HO⟩ Hk
  unfold crSt
  rw [bigSep_first hc (credTok L d), sl3_add, Nat.add_div_right c (by decide)]
  icases Hcr with ⟨⟨Ht, Hts⟩, #HF⟩
  iapply (wp_credSig X Wt K κ L d O Q k hc) $$ [Hs Hr Ht HO]
  · isplitr; · iexact HC
    isplitl [Hs]; · iexact Hs
    isplitl [Hr]; · iexact Hr
    isplitr; · iexact HF
    isplitr; · iexact Hre
    isplitl [Ht] <;> iassumption
  iintro ⟨HF', Hr, HO⟩
  iapply Hk
  isplitl [Hts HF']
  · isplitl [Hts] <;> iassumption
  isplitl [Hr] <;> iassumption

/-! ## The states of a lane -/

/-- Before step `s ≤ 15`. -/
def addSt (s : ℕ) : sProp 𝕄 :=
  iprop(mid L d s ∗ crSt L d s ∗ own1 d (sendV L (sl3 (s + 1))) ∗ own1 d (sendV L (sl3 (s + 2)))
    ∗ rdr L d s ∗ rdr L d (s + 1) ∗ rdr L d (s + 2) ∗ flSt X Wt L d (s - 14))

/-- The half of a receive slot kept while the other half is being sent. -/
def half (h : ℕ) : sProp 𝕄 :=
  iprop(∃ f : Buf (Elt F) ((recvV L (sl3 h)).view.loc (d : Thread nD τ)),
    (recvV L (sl3 h)).view.loc (d : Thread nD τ) ↦[(recvV L (sl3 h)).view.set]{fullShare.right} f)

def sends (h : ℕ) : sProp 𝕄 := iprop(own1 d (sendV L (sl3 h)) ∗ own1 d (sendV L (sl3 (h + 1))) ∗ own1 d (sendV L (sl3 (h + 2))))

/-- Before step `s` of 16 to 28. -/
def fwdSt (s : ℕ) : sProp 𝕄 :=
  iprop(mid L d s ∗ crSt L d (s - 1) ∗ sends L d 15 ∗ half L d (s - 1)
    ∗ rdr L d (s - 1) ∗ rdr L d s ∗ rdr L d (s + 1) ∗ flSt X Wt L d (s - 14))

/-- Before step 29. -/
def lastSt : sProp 𝕄 :=
  iprop(mid L d 29 ∗ sends L d 15 ∗ half L d 28 ∗ own1 d (recvV L (sl3 27)) ∗ flSt X Wt L d 15)

/-- After step 29. -/
def endSt : sProp 𝕄 :=
  iprop(mid1 L d 29 27 ∗ sends L d 15 ∗ own1 d (recvV L (sl3 27)) ∗ own1 d (recvV L (sl3 28)) ∗ own1 d (recvV L (sl3 29)) ∗ flSt X Wt L d 16)

/-- What the lane owes with what the others owe. -/
abbrev owe (h c : ℕ) : sProp 𝕄 := owing d (O + owC L d c + owH L d h)

theorem above_owe {n h c : ℕ} (hO : Above n O) (hh : n < 10 * h + 10) (hc : n < 10 * c + 25) : Above n (O + owC L d c + owH L d h) :=
  (hO.add (owC_above L d hc)).add (owH_above L d hh)

/-- A step that adds, up to the credit it gives. -/
theorem wp_addCore {s : ℕ} (hs : s ≤ 14) (hO : Above (10 * s + 10) O) {g : FVec F S256x2048 .bf16 → FVec F S256x2048 .bf16}
    (hg : g (addf (arr X Wt L d s) (pv X Wt L d s)) = arr X Wt L (dst L d) (s + 1))
    {k : FVec F S256x2048 .bf16 → Pgm F} :
    iprop(Ctx X Wt K κ ∗ barFact L (dst L d) ∗ ins X Wt d ∗ owe L d O (s + 1) s ∗ addSt X Wt L d s)
      ⊢ iprop(((ins X Wt d ∗ owe L d O (s + 2) (s + 1) ∗ mid L d (s + 1) ∗ crSt L d (s + 1) ∗ own1 d (sendV L (sl3 (s + 2))) ∗ own1 d (sendV L (sl3 (s + 3)))
            ∗ rdr L d (s + 1) ∗ rdr L d (s + 2) ∗ rdr L d (s + 3) ∗ flSt X Wt L d (s - 14)) -∗ WP d (k (addf (arr X Wt L d s) (pv X Wt L d s))) Q)
          -∗ WP d (ldX L d s fun x => ldW L fun w => waitHopS L (sl3 s) <| ldRecv L (sl3 s) fun r => ldSend L (sl3 (s + 1)) fun _ =>
            stSend L (sl3 (s + 1)) (up (g (addf (down r) (partialV x w)))) <|
            (match decide (2 ≤ s) with | true => credWait L | false => id) <| putS L d (sl3 (s + 1)) <| credSig L d (k (addf (down r) (partialV x w)))) Q) := by
  iintro ⟨#HC, #HB, Hin, HO, Hst⟩ Hk
  unfold addSt
  icases Hst with ⟨Hm, Hcr, Hs1, Hs2, Hr0, Hr1, Hr2, Hf⟩
  iapply (wp_ldX X Wt L d Q s) $$ Hin
  iintro Hin
  iapply (wp_ldW X Wt L d Q) $$ Hin
  iintro Hin
  iapply (mid_wait X Wt K κ L d (O + owC L d s + owH L d (s + 1)) Q _ (N_send L _) (N_recv L _) (by omega)
    (above_owe L d O hO (by omega) (by omega))) $$ [HO Hm]
  · isplitr; · iexact HC
    isplitl [HO] <;> iassumption
  iintro ⟨HO, Hm, Hps, Hpr⟩
  unfold recvPay ownV
  icases Hpr with ⟨%f, %hf, Hpr⟩
  iapply (wp_ldRecv L d Q (sl3 s) hf) $$ Hpr
  iintro %r %hr Hpr
  rw [hr]
  iapply (wp_ldSend L d Q (sl3 (s + 1))) $$ Hs1
  iintro %r' Hs1
  iapply (wp_stSend L d Q _ (sl3 (s + 1)) _) $$ Hs1
  iintro Hs1
  have hfin : iprop(Ctx X Wt K κ ∗ ins X Wt d ∗ ownV d (sendV L (sl3 (s + 1))) fullShare (g (addf (arr X Wt L d s) (pv X Wt L d s)))
      ∗ owe L d O (s + 1) s ∗ mid1 L d s (s - 1) ∗ ready L d (s + 1) ∗ ((recvV L (sl3 s)).view.loc (d : Thread nD τ) ↦[(recvV L (sl3 s)).view.set]{fullShare} f)
      ∗ crSt L d s ∗ sendPay L d s ∗ own1 d (sendV L (sl3 (s + 2))) ∗ rdr L d s ∗ rdr L d (s + 1) ∗ rdr L d (s + 2) ∗ flSt X Wt L d (s - 14))
      ⊢ iprop(((ins X Wt d ∗ owe L d O (s + 2) (s + 1) ∗ mid L d (s + 1) ∗ crSt L d (s + 1) ∗ own1 d (sendV L (sl3 (s + 2))) ∗ own1 d (sendV L (sl3 (s + 3)))
            ∗ rdr L d (s + 1) ∗ rdr L d (s + 2) ∗ rdr L d (s + 3) ∗ flSt X Wt L d (s - 14)) -∗ WP d (k (addf (arr X Wt L d s) (pv X Wt L d s))) Q)
        -∗ WP d (putS L d (sl3 (s + 1)) <| credSig L d (k (addf (arr X Wt L d s) (pv X Wt L d s)))) Q) := by
    iintro ⟨#HC, Hin, Hs1, HO, Hm, #HR, Hpr, Hcr, Hps, Hs2, Hr0, Hr1, Hr2, Hf⟩ Hk
    have hre : (mid1 L d s (s - 1) : sProp 𝕄) ⊢ iprop(mid1 L d s (s - 1) ∗ reached ER (cell d (kRecv L (sl3 (s + 3)))) ((s + 3) / 3)) := by
      unfold mid1
      iintro ⟨H1, H2, H3, H4⟩
      ihave H3' := (hpos_send L d (s + 3)) $$ H3
      icases H3' with ⟨H3, -, #Hr⟩
      isplitl
      · isplitl [H1]; · iexact H1
        isplitl [H2]; · iexact H2
        isplitl [H3] <;> iassumption
      iexact Hr
    ihave Hm' := hre $$ Hm
    icases Hm' with ⟨Hm, #Hre⟩
    ihave Hm' := (mid_put L d (show s < 29 by omega)) $$ Hm
    icases Hm' with ⟨Hh, Hm⟩
    iapply (wp_putS X Wt K κ L d (O + owC L d s) Q _ (h := s + 1) (by omega) hg) $$ [Hs1 HO Hh]
    · isplitr; · iexact HC
      isplitl [Hs1]; · iexact Hs1
      isplitl [HO]; · iexact HO
      isplitl [Hh]; · iexact Hh
      iexact HR
    iintro ⟨Hsc, HO⟩
    ihave Hm := Hm $$ Hsc
    rw [add_right_comm O]
    iapply (cr_sig X Wt K κ L d (O + owH L d (s + 1 + 1)) Q _ (c := s) (by omega)) $$ [Hpr Hcr Hr0 HO]
    · isplitr; · iexact HC
      isplitl [Hpr]; · unfold own1 slot; iexists f; iexact Hpr
      isplitl [Hr0]; · iexact Hr0
      isplitr; · iexact Hre
      isplitl [Hcr] <;> iassumption
    iintro ⟨Hcr, Hr3, HO⟩
    unfold owe
    rw [add_right_comm O]
    iapply Hk
    isplitl [Hin]; · iexact Hin
    isplitl [HO]; · iexact HO
    isplitl [Hm]; · iexact Hm
    isplitl [Hcr]; · iexact Hcr
    isplitl [Hs2]; · iexact Hs2
    isplitl [Hps]
    · ihave Hps' := (Entails.of_eq (sendPay_early L d (h := s) (by omega))) $$ Hps
      iexact Hps'
    isplitl [Hr1]; · iexact Hr1
    isplitl [Hr2]; · iexact Hr2
    isplitl [Hr3] <;> iassumption
  by_cases h2 : 2 ≤ s
  · rw [decide_eq_true h2]
    iapply (mid_cred X Wt K κ L d (O + owC L d s + owH L d (s + 1)) Q _ h2 (by omega)
      (above_owe L d O (hO.mono (by omega)) (by omega) (by omega))) $$ [HO Hm]
    · isplitr; · iexact HC
      isplitl [HO] <;> iassumption
    iintro ⟨HO, Hm, #HR⟩
    iapply hfin $$ [Hin HO Hm Hs1 Hpr Hcr Hps Hs2 Hr0 Hr1 Hr2 Hf]
    · isplitr; · iexact HC
      isplitl [Hin]; · iexact Hin
      isplitl [Hs1]; · iexact Hs1
      isplitl [HO]; · iexact HO
      isplitl [Hm]; · iexact Hm
      isplitr; · iexact HR
      isplitl [Hpr]; · iexact Hpr
      isplitl [Hcr]; · iexact Hcr
      isplitl [Hps]; · iexact Hps
      isplitl [Hs2]; · iexact Hs2
      isplitl [Hr0]; · iexact Hr0
      isplitl [Hr1]; · iexact Hr1
      isplitl [Hr2] <;> iassumption
    iexact Hk
  · rw [decide_eq_false h2, show s - 2 = s - 1 by omega]
    iapply hfin $$ [Hin HO Hm Hs1 Hpr Hcr Hps Hs2 Hr0 Hr1 Hr2 Hf]
    · isplitr; · iexact HC
      isplitl [Hin]; · iexact Hin
      isplitl [Hs1]; · iexact Hs1
      isplitl [HO]; · iexact HO
      isplitl [Hm]; · iexact Hm
      isplitr
      · iapply (ready_first X Wt K κ L d (show s + 1 < 3 by omega))
        isplitr <;> iassumption
      isplitl [Hpr]; · iexact Hpr
      isplitl [Hcr]; · iexact Hcr
      isplitl [Hps]; · iexact Hps
      isplitl [Hs2]; · iexact Hs2
      isplitl [Hr0]; · iexact Hr0
      isplitl [Hr1]; · iexact Hr1
      isplitl [Hr2] <;> iassumption
    iexact Hk

end Cert.Ring
-- ==== Proof.LaneRun.lean ====
/-
  A lane from its first hop to its last wait.
-/
module

public import proofs.«01_k».proof.Proof.Steps

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## The two halves of a receive slot -/

theorem halves_split {h : ℕ} {v : FVec F S256x2048 .bf16} :
    ownV d (recvV L (sl3 h)) fullShare v ⊢ iprop(∃ f : Buf (Elt F) ((recvV L (sl3 h)).view.loc (d : Thread nD τ)), ⌜(recvV L (sl3 h)).view.read (Elt F) f = v⌝
      ∗ ((recvV L (sl3 h)).view.loc (d : Thread nD τ) ↦[(recvV L (sl3 h)).view.set]{fullShare.left} f)
      ∗ ownV d (recvV L (sl3 h)) fullShare.right v) := by
  unfold ownV
  iintro ⟨%f, %hf, H⟩
  ihave H' := (pointsTo_share (I := (recvV L (sl3 h)).view.set) (f := f) (PosShare.mem_left_op_right fullShare)).1 $$ H
  icases H' with ⟨H1, H2⟩
  iexists f
  isplitr; · ipureintro; exact hf
  isplitl [H1]; · iexact H1
  iexists f
  isplitr; · ipureintro; exact hf
  iexact H2

theorem right_half {h : ℕ} {v : FVec F S256x2048 .bf16} : ownV d (recvV L (sl3 h)) fullShare.right v ⊢ half L d h := by
  unfold ownV half
  iintro ⟨%f, -, H⟩
  iexists f; iexact H

theorem halves_join {h : ℕ} (hh : 15 ≤ h) : iprop(sendPay L d (h + 1) ∗ half L d h) ⊢ (own1 d (recvV L (sl3 h)) : sProp 𝕄) := by
  unfold sendPay half own1 slot
  rw [if_neg (show ¬ h + 1 ≤ 15 by omega), Nat.add_sub_cancel]
  iintro ⟨⟨%f, H1⟩, %g, H2⟩
  ihave %hfg := (pointsTo_agree (I := (recvV L (sl3 h)).view.set) (J := (recvV L (sl3 h)).view.set) (f := f) (g := g)
    (q₁ := fullShare.left) (q₂ := fullShare.right)) $$ [H1 H2]
  · isplitl [H1] <;> iassumption
  have e : ((recvV L (sl3 h)).view.loc (d : Thread nD τ) ↦[(recvV L (sl3 h)).view.set]{fullShare.right} g : sProp 𝕄)
      = ((recvV L (sl3 h)).view.loc (d : Thread nD τ) ↦[(recvV L (sl3 h)).view.set]{fullShare.right} f) :=
    pointsTo_congr fun i hi => ((hfg i (Finset.mem_inter.2 ⟨hi, hi⟩)).1).symm
  ihave H2' := (Entails.of_eq e) $$ H2
  iexists f
  iapply (pointsTo_share (I := (recvV L (sl3 h)).view.set) (f := f) (PosShare.mem_left_op_right fullShare)).2
  isplitl [H1] <;> iassumption

theorem mid_reached (s : ℕ) : (mid L d s : sProp 𝕄) ⊢ iprop(mid L d s ∗ reached ER (cell d (kRecv L (sl3 (s + 1)))) ((s + 1) / 3)) := by
  unfold mid
  iintro ⟨H0, H1, H2, H3⟩
  ihave H2' := (hpos_send L d (s + 1)) $$ H2
  icases H2' with ⟨H2, -, #Hr⟩
  isplitl
  · isplitl [H0]; · iexact H0
    isplitl [H1]; · iexact H1
    isplitl [H2] <;> iassumption
  iexact Hr

/-! ## The start -/

/-- A lane's holdings once the neighbours have arrived. -/
def initSt : sProp 𝕄 :=
  iprop((hpos L d 0 ∗ hpos L d 1 ∗ hpos L d 2) ∗ bigSep (Finset.Ico 0 30) (inCred L d) ∗ bigSep (Finset.Ico 0 30) (hopTok L d)
    ∗ bigSep (Finset.Ico 0 27) (crCred L d) ∗ credSt L d 0 ∗ crSt L d 0 ∗ sends L d 0 ∗ (rdr L d 0 ∗ rdr L d 1 ∗ rdr L d 2) ∗ flSt X Wt L d 0)

/-- The indices of the next hop to send and of the next credit to give before step `s`. -/
def hIdx (s : ℕ) : ℕ := min (s + 1) 30
def cIdx (s : ℕ) : ℕ := if s ≤ 15 then s else min (s - 1) 27

/-- A lane before step `s`. -/
def laneSt (s : ℕ) : sProp 𝕄 :=
  if s ≤ 15 then addSt X Wt L d s else if s ≤ 28 then fwdSt X Wt L d s else if s = 29 then lastSt X Wt L d else endSt X Wt L d

theorem wp_start :
    iprop(Ctx X Wt K κ ∗ barFact L (dst L d) ∗ ins X Wt d ∗ owe L d O 0 0 ∗ initSt X Wt L d)
      ⊢ iprop(((ins X Wt d ∗ owe L d O (hIdx 0) (cIdx 0) ∗ laneSt X Wt L d 0) -∗ WP d k Q) -∗ WP d (start L d k) Q) := by
  show _ ⊢ iprop(((ins X Wt d ∗ owe L d O 1 0 ∗ addSt X Wt L d 0) -∗ WP d k Q) -∗ WP d (start L d k) Q)
  iintro ⟨#HC, #HB, Hin, HO, Hst⟩ Hk
  rw [show start L d k = (ldX0 d fun x => ldW L fun w => ldSend L (sl3 0) fun _ => stSend L (sl3 0) (up (partialV x w)) <| putS L d (sl3 0) k) from rfl]
  unfold initSt addSt mid sends
  rw [bigSep_first (show 0 < 30 by omega) (hopTok L d)]
  icases Hst with ⟨⟨Hp0, Hp1, Hp2⟩, His, ⟨Hh, Hhs⟩, Hcs, Hst, Hcr, ⟨Hs0, Hs1, Hs2⟩, ⟨Hr0, Hr1, Hr2⟩, Hf⟩
  iapply (wp_ldX0 X Wt d Q) $$ Hin
  iintro Hin
  iapply (wp_ldW X Wt L d Q) $$ Hin
  iintro Hin
  iapply (wp_ldSend L d Q (sl3 0)) $$ Hs0
  iintro %r Hs0
  iapply (wp_stSend L d Q _ (sl3 0) _) $$ Hs0
  iintro Hs0
  iapply (wp_putS X Wt K κ L d (O + owC L d 0) Q _ (h := 0) (by omega) (arr_zero X Wt L d).symm) $$ [Hs0 HO Hh]
  · isplitr; · iexact HC
    isplitl [Hs0]; · iexact Hs0
    isplitl [HO]; · iexact HO
    isplitl [Hh]; · iexact Hh
    iapply (ready_first X Wt K κ L d (show 0 < 3 by omega))
    isplitr <;> iassumption
  iintro ⟨Hs, HO⟩
  iapply Hk
  isplitl [Hin]; · iexact Hin
  isplitl [HO]; · iexact HO
  isplitl [Hs Hp0 Hp1 Hp2 His Hhs Hcs Hst]
  · isplitl [Hs]; · iexact Hs
    isplitl [Hp0]; · iexact Hp0
    isplitl [Hp1]; · iexact Hp1
    isplitl [Hp2]; · iexact Hp2
    isplitl [His]; · iexact His
    isplitl [Hhs]; · iexact Hhs
    isplitl [Hcs] <;> iassumption
  isplitl [Hcr]; · iexact Hcr
  isplitl [Hs1]; · iexact Hs1
  isplitl [Hs2]; · iexact Hs2
  isplitl [Hr0]; · iexact Hr0
  isplitl [Hr1]; · iexact Hr1
  isplitl [Hr2] <;> iassumption

/-! ## The adding steps -/

theorem wp_addStep {s : ℕ} (hs : s < 14) (hO : Above (10 * s + 10) O) :
    iprop(Ctx X Wt K κ ∗ barFact L (dst L d) ∗ ins X Wt d ∗ owe L d O (s + 1) s ∗ addSt X Wt L d s)
      ⊢ iprop(((ins X Wt d ∗ owe L d O (s + 2) (s + 1) ∗ addSt X Wt L d (s + 1)) -∗ WP d k Q) -∗ WP d (addStep L d s (decide (2 ≤ s)) k) Q) := by
  have H := wp_addCore X Wt K κ L d O Q (show s ≤ 14 by omega) hO (g := id) (arr_add X Wt L d s hs).symm (k := fun _ => k)
  iintro ⟨#HC, HA⟩ Hk
  iapply H $$ [HA]
  · isplitr; · iexact HC
    iexact HA
  iintro ⟨Hin, HO, Hm, Hcr, Hs1, Hs2, Hr0, Hr1, Hr2, Hf⟩
  iapply Hk
  unfold addSt
  rw [show s + 1 - 14 = s - 14 by omega]
  isplitl [Hin]; · iexact Hin
  isplitl [HO]; · iexact HO
  isplitl [Hm]; · iexact Hm
  isplitl [Hcr]; · iexact Hcr
  isplitl [Hs1]; · iexact Hs1
  isplitl [Hs2]; · iexact Hs2
  isplitl [Hr0]; · iexact Hr0
  isplitl [Hr1]; · iexact Hr1
  isplitl [Hr2] <;> iassumption

theorem wp_turnStep (hO : Above (10 * 14 + 10) O) :
    iprop(Ctx X Wt K κ ∗ barFact L (dst L d) ∗ ins X Wt d ∗ owe L d O 15 14 ∗ addSt X Wt L d 14)
      ⊢ iprop(((ins X Wt d ∗ owe L d O 16 15 ∗ addSt X Wt L d 15) -∗ WP d k Q) -∗ WP d (turnStep L d k) Q) := by
  have H := wp_addCore X Wt K κ L d O Q (show 14 ≤ 14 by omega) hO (g := fun z => truncf .bf16 (geluV z) bitsLt_bf16_f32)
    (arr_turn X Wt L d).symm (k := fun z => flush L d 0 false (geluV z) k)
  have H2 := wp_flush X Wt K κ L d (O + owC L d 15 + owH L d 16) Q k (n := 0) (by omega)
    (above_owe L d O (hO.mono (Nat.zero_le _)) (by omega) (by omega)) (outv_zero X Wt L d).symm
  iintro ⟨#HC, HA⟩ Hk
  iapply H $$ [HA]
  · isplitr; · iexact HC
    iexact HA
  iintro ⟨Hin, HO, Hm, Hcr, Hs1, Hs2, Hr0, Hr1, Hr2, Hf⟩
  iapply H2 $$ [HO Hf]
  · isplitr; · iexact HC
    isplitl [HO] <;> iassumption
  iintro ⟨HO, Hf⟩
  iapply Hk
  unfold addSt
  isplitl [Hin]; · iexact Hin
  isplitl [HO]; · iexact HO
  isplitl [Hm]; · iexact Hm
  isplitl [Hcr]; · iexact Hcr
  isplitl [Hs1]; · iexact Hs1
  isplitl [Hs2]; · iexact Hs2
  isplitl [Hr0]; · iexact Hr0
  isplitl [Hr1]; · iexact Hr1
  isplitl [Hr2] <;> iassumption

/-! ## The forwarding steps -/

theorem wp_fwdPut {s c : ℕ} (hs : 15 ≤ s) (hs' : s < 29) (hc : s < c + 2) (hO : Above (10 * s + 10) O) :
    iprop(Ctx X Wt K κ ∗ owe L d O (s + 1) c ∗ mid1 L d s (s - 2) ∗ recvPay X Wt L d s)
      ⊢ iprop(((owe L d O (s + 2) c ∗ mid L d (s + 1) ∗ ownV d (recvV L (sl3 s)) fullShare.right (arr X Wt L d s)) -∗ WP d k Q)
          -∗ WP d (credWait L <| putR L d (sl3 s) (sl3 (s + 1)) k) Q) := by
  iintro ⟨#HC, HO, Hm, Hpr⟩ Hk
  unfold recvPay
  ihave Hpr' := (halves_split L d) $$ Hpr
  icases Hpr' with ⟨%f, %hf, Hl, Hr⟩
  iapply (mid_cred X Wt K κ L d (O + owC L d c + owH L d (s + 1)) Q _ (by omega) hs'
    (above_owe L d O (hO.mono (by omega)) (by omega) (by omega))) $$ [HO Hm]
  · isplitr; · iexact HC
    isplitl [HO] <;> iassumption
  iintro ⟨HO, Hm, #HR⟩
  ihave Hm' := (mid_put L d hs') $$ Hm
  icases Hm' with ⟨Hh, Hm⟩
  iapply (wp_putR X Wt K κ L d (O + owC L d c) Q k hs (by omega) (hf.trans (arr_fwd X Wt L d s hs).symm)) $$ [Hl HO Hh]
  · isplitr; · iexact HC
    isplitl [Hl]; · iexact Hl
    isplitl [HO]; · iexact HO
    isplitl [Hh]; · iexact Hh
    iexact HR
  iintro ⟨Hsc, HO⟩
  ihave Hm := Hm $$ Hsc
  iapply Hk
  isplitl [HO]; · iexact HO
  isplitl [Hm] <;> iassumption

theorem wp_fwdFlush {s : ℕ} {q : PosShare TreeShare} (hs : 15 ≤ s) (hs' : s < 30) (hO : Above 0 O) :
    iprop(Ctx X Wt K κ ∗ owing d O ∗ ownV d (recvV L (sl3 s)) q (arr X Wt L d s) ∗ flSt X Wt L d (s - 14))
      ⊢ iprop(((owing d O ∗ ownV d (recvV L (sl3 s)) q (arr X Wt L d s) ∗ flSt X Wt L d (s + 1 - 14)) -∗ WP d k Q)
          -∗ WP d (ldRecv L (sl3 s) fun r => flush L d (s - 14) (decide (16 ≤ s)) (extf .f32 (down r) bitsLt_bf16_f32) k) Q) := by
  iintro ⟨#HC, HO, Hr, Hf⟩ Hk
  unfold ownV
  icases Hr with ⟨%f, %hf, Hr⟩
  rw [show decide (16 ≤ s) = decide (2 ≤ s - 14) from decide_eq_decide.2 (by omega), show s + 1 - 14 = s - 14 + 1 by omega]
  iapply (wp_ldRecv L d Q (sl3 s) hf) $$ Hr
  iintro %r %hr Hr
  rw [hr]
  iapply (wp_flush X Wt K κ L d O Q k (by omega) hO (outv_fwd X Wt L d s hs).symm) $$ [HO Hf]
  · isplitr; · iexact HC
    isplitl [HO] <;> iassumption
  iintro ⟨HO, Hf⟩
  iapply Hk
  isplitl [HO]; · iexact HO
  isplitr [Hf]
  · iexists f
    isplitr; · ipureintro; exact hf
    iexact Hr
  iexact Hf

/-- Step 15: the first chunk forwarded. -/
theorem wp_fwd15 (hO : Above (10 * 15 + 10) O) :
    iprop(Ctx X Wt K κ ∗ owe L d O 16 15 ∗ addSt X Wt L d 15)
      ⊢ iprop(((owe L d O 17 15 ∗ fwdSt X Wt L d 16) -∗ WP d k Q) -∗ WP d (fwdStep L d 15 true false true false k) Q) := by
  iintro ⟨#HC, HO, Hst⟩ Hk
  unfold addSt fwdSt sends fwdStep
  icases Hst with ⟨Hm, Hcr, Hs1, Hs2, Hr0, Hr1, Hr2, Hf⟩
  iapply (mid_wait X Wt K κ L d (O + owC L d 15 + owH L d 16) Q _ (N_send L _) (N_recv L _) (by omega)
    (above_owe L d O hO (by omega) (by omega))) $$ [HO Hm]
  · isplitr; · iexact HC
    isplitl [HO] <;> iassumption
  iintro ⟨HO, Hm, Hps, Hpr⟩
  iapply (wp_fwdPut X Wt K κ L d O Q _ (s := 15) (c := 15) (by omega) (by omega) (by omega) hO) $$ [HO Hm Hpr]
  · isplitr; · iexact HC
    isplitl [HO]; · iexact HO
    isplitl [Hm] <;> iassumption
  iintro ⟨HO, Hm, Hpr⟩
  iapply (wp_fwdFlush X Wt K κ L d (O + owC L d 15 + owH L d 17) Q k (s := 15) (by omega) (by omega)
    (above_owe L d O (hO.mono (Nat.zero_le _)) (by omega) (by omega))) $$ [HO Hpr Hf]
  · isplitr; · iexact HC
    isplitl [HO]; · iexact HO
    isplitl [Hpr] <;> iassumption
  iintro ⟨HO, Hpr, Hf⟩
  iapply Hk
  isplitl [HO]; · iexact HO
  isplitl [Hm]; · iexact Hm
  isplitl [Hcr]; · iexact Hcr
  isplitl [Hps Hs1 Hs2]
  · ihave Hps' := (Entails.of_eq (sendPay_early L d (h := 15) (by omega))) $$ Hps
    isplitl [Hps']; · iexact Hps'
    isplitl [Hs1] <;> iassumption
  isplitl [Hpr]; · iapply (right_half L d) $$ Hpr
  isplitl [Hr0]; · iexact Hr0
  isplitl [Hr1]; · iexact Hr1
  isplitl [Hr2] <;> iassumption

/-- Step `s` of 16 to 28, up to its put. -/
theorem wp_fwdHead {s : ℕ} (hs : 16 ≤ s) (hs' : s < 29) (hO : Above (10 * s + 10) O) :
    iprop(Ctx X Wt K κ ∗ owe L d O (s + 1) (s - 1) ∗ mid L d s ∗ half L d (s - 1))
      ⊢ iprop(((owe L d O (s + 2) (s - 1) ∗ mid L d (s + 1) ∗ own1 d (recvV L (sl3 (s - 1)))
              ∗ ownV d (recvV L (sl3 s)) fullShare.right (arr X Wt L d s)) -∗ WP d k Q)
          -∗ WP d (waitHopR L (sl3 (s - 1)) (sl3 s) <| credWait L <| putR L d (sl3 s) (sl3 (s + 1)) k) Q) := by
  iintro ⟨#HC, HO, Hm, Hh⟩ Hk
  unfold waitHopR
  iapply (mid_wait X Wt K κ L d (O + owC L d (s - 1) + owH L d (s + 1)) Q _ (N_recv L _) (N_recv L _) (by omega)
    (above_owe L d O hO (by omega) (by omega))) $$ [HO Hm]
  · isplitr; · iexact HC
    isplitl [HO] <;> iassumption
  iintro ⟨HO, Hm, Hps, Hpr⟩
  have hj := halves_join (F := F) L d (h := s - 1) (by omega)
  rw [show s - 1 + 1 = s by omega] at hj
  ihave Hs := hj $$ [Hps Hh]
  · isplitl [Hps] <;> iassumption
  iapply (wp_fwdPut X Wt K κ L d O Q _ (c := s - 1) (by omega) (by omega) (by omega) hO) $$ [HO Hm Hpr]
  · isplitr; · iexact HC
    isplitl [HO]; · iexact HO
    isplitl [Hm] <;> iassumption
  iintro ⟨HO, Hm, Hpr⟩
  iapply Hk
  isplitl [HO]; · iexact HO
  isplitl [Hm]; · iexact Hm
  isplitl [Hs] <;> iassumption

/-- Step `s` of 16 to 27. -/
theorem wp_fwdMid {s : ℕ} (hs : 16 ≤ s) (hs' : s < 28) (hO : Above (10 * s + 10) O) :
    iprop(Ctx X Wt K κ ∗ owe L d O (s + 1) (s - 1) ∗ fwdSt X Wt L d s)
      ⊢ iprop(((owe L d O (s + 2) s ∗ fwdSt X Wt L d (s + 1)) -∗ WP d k Q)
          -∗ WP d (fwdStep L d s false (decide (16 ≤ s)) true true k) Q) := by
  iintro ⟨#HC, HO, Hst⟩ Hk
  unfold fwdSt fwdStep
  icases Hst with ⟨Hm, Hcr, Hss, Hh, Hr0, Hr1, Hr2, Hf⟩
  iapply (wp_fwdHead X Wt K κ L d O Q _ hs (by omega) hO) $$ [HO Hm Hh]
  · isplitr; · iexact HC
    isplitl [HO]; · iexact HO
    isplitl [Hm] <;> iassumption
  iintro ⟨HO, Hm, Hs, Hpr⟩
  ihave Hm' := (mid_reached L d (s + 1)) $$ Hm
  icases Hm' with ⟨Hm, #Hre⟩
  unfold owe
  rw [add_right_comm O (owC L d (s - 1))]
  have hsig := cr_sig X Wt K κ L d (O + owH L d (s + 2)) Q
    (ldRecv L (sl3 s) fun r => flush L d (s - 14) (decide (16 ≤ s)) (extf .f32 (down r) bitsLt_bf16_f32) k) (c := s - 1) (by omega)
  rw [show s - 1 + 1 = s by omega, show s - 1 + 3 = s + 1 + 1 by omega] at hsig
  iapply hsig $$ [HO Hcr Hr0 Hs]
  · isplitr; · iexact HC
    isplitl [Hs]; · iexact Hs
    isplitl [Hr0]; · iexact Hr0
    isplitr; · iexact Hre
    isplitl [Hcr] <;> iassumption
  iintro ⟨Hcr, Hr3, HO⟩
  rw [add_right_comm O (owH L d (s + 2))]
  iapply (wp_fwdFlush X Wt K κ L d (O + owC L d s + owH L d (s + 2)) Q k (by omega) (by omega)
    (above_owe L d O (hO.mono (Nat.zero_le _)) (by omega) (by omega))) $$ [HO Hpr Hf]
  · isplitr; · iexact HC
    isplitl [HO]; · iexact HO
    isplitl [Hpr] <;> iassumption
  iintro ⟨HO, Hpr, Hf⟩
  iapply Hk
  rw [show s + 1 - 1 = s by omega]
  isplitl [HO]; · iexact HO
  isplitl [Hm]; · iexact Hm
  isplitl [Hcr]; · iexact Hcr
  isplitl [Hss]; · iexact Hss
  isplitl [Hpr]; · iapply (right_half L d) $$ Hpr
  isplitl [Hr1]; · iexact Hr1
  isplitl [Hr2]; · iexact Hr2
  isplitl [Hr3] <;> iassumption

/-- Step 28: no credit is given any more. -/
theorem wp_fwd28 (hO : Above (10 * 28 + 10) O) :
    iprop(Ctx X Wt K κ ∗ owe L d O 29 27 ∗ fwdSt X Wt L d 28)
      ⊢ iprop(((owe L d O 30 27 ∗ lastSt X Wt L d) -∗ WP d k Q) -∗ WP d (fwdStep L d 28 false true true false k) Q) := by
  iintro ⟨#HC, HO, Hst⟩ Hk
  unfold fwdSt lastSt fwdStep
  icases Hst with ⟨Hm, Hcr, Hss, Hh, Hr0, Hr1, Hr2, Hf⟩
  iapply (wp_fwdHead X Wt K κ L d O Q _ (s := 28) (by omega) (by omega) hO) $$ [HO Hm Hh]
  · isplitr; · iexact HC
    isplitl [HO]; · iexact HO
    isplitl [Hm] <;> iassumption
  iintro ⟨HO, Hm, Hs, Hpr⟩
  iapply (wp_fwdFlush X Wt K κ L d (O + owC L d 27 + owH L d 30) Q k (s := 28) (by omega) (by omega)
    (above_owe L d O (hO.mono (Nat.zero_le _)) (by omega) (by omega))) $$ [HO Hpr Hf]
  · isplitr; · iexact HC
    isplitl [HO]; · iexact HO
    isplitl [Hpr] <;> iassumption
  iintro ⟨HO, Hpr, Hf⟩
  iapply Hk
  isplitl [HO]; · iexact HO
  isplitl [Hm]; · iexact Hm
  isplitl [Hss]; · iexact Hss
  isplitl [Hpr]; · iapply (right_half L d) $$ Hpr
  isplitl [Hs] <;> iassumption

/-- Step 29: the last chunk arrives. -/
theorem wp_fwd29 (hO : Above (10 * 29 + 10) O) :
    iprop(Ctx X Wt K κ ∗ owe L d O 30 27 ∗ lastSt X Wt L d)
      ⊢ iprop(((owe L d O 30 27 ∗ endSt X Wt L d) -∗ WP d k Q) -∗ WP d (fwdStep L d 29 false true false false k) Q) := by
  have ha : Above (10 * 29 + 10) (O + owC L d 27 + owH L d 30) := by
    rw [owC_end L d le_rfl, owH_end L d le_rfl, add_zero, add_zero]; exact hO
  iintro ⟨#HC, HO, Hst⟩ Hk
  unfold lastSt endSt fwdStep
  icases Hst with ⟨Hm, Hss, Hh, Hs, Hf⟩
  unfold waitHopR
  iapply (mid_wait X Wt K κ L d (O + owC L d 27 + owH L d 30) Q _ (s := 29) (N_recv L _) (N_recv L _) (by omega) ha) $$ [HO Hm]
  · isplitr; · iexact HC
    isplitl [HO] <;> iassumption
  iintro ⟨HO, Hm, Hps, Hpr⟩
  ihave Hs' := (halves_join (F := F) L d (h := 28) (by omega)) $$ [Hps Hh]
  · isplitl [Hps] <;> iassumption
  unfold recvPay
  iapply (wp_fwdFlush X Wt K κ L d (O + owC L d 27 + owH L d 30) Q k (s := 29) (by omega) (by omega)
    (ha.mono (Nat.zero_le _))) $$ [HO Hpr Hf]
  · isplitr; · iexact HC
    isplitl [HO]; · iexact HO
    isplitl [Hpr] <;> iassumption
  iintro ⟨HO, Hpr, Hf⟩
  iapply Hk
  isplitl [HO]; · iexact HO
  isplitl [Hm]; · iexact Hm
  isplitl [Hss]; · iexact Hss
  isplitl [Hs]; · iexact Hs
  isplitl [Hs']; · iexact Hs'
  isplitl [Hpr]; · iapply (ownV_own1 d _ _) $$ Hpr
  iexact Hf

/-! ## All steps -/

theorem laneStep_add {s : ℕ} (h : s < 14) : laneStep L d s k = addStep L d s (decide (2 ≤ s)) k := by
  unfold laneStep; rw [decide_eq_true h]
theorem laneStep_fwd {s : ℕ} (h : 15 ≤ s) :
    laneStep L d s k = fwdStep L d s (decide (s = 15)) (decide (16 ≤ s)) (decide (s < 29)) (decide (16 ≤ s ∧ s ≤ 27)) k := by
  unfold laneStep; rw [decide_eq_false (show ¬ s < 14 by omega), decide_eq_false (show ¬ s < 15 by omega)]

/-- A step of a lane. -/
theorem wp_laneStep {s : ℕ} (hs : s < 30) (hO : Above (10 * s + 10) O) :
    iprop(Ctx X Wt K κ ∗ barFact L (dst L d) ∗ ins X Wt d ∗ owe L d O (hIdx s) (cIdx s) ∗ laneSt X Wt L d s)
      ⊢ iprop(((ins X Wt d ∗ owe L d O (hIdx (s + 1)) (cIdx (s + 1)) ∗ laneSt X Wt L d (s + 1)) -∗ WP d k Q) -∗ WP d (laneStep L d s k) Q) := by
  have fwd : ∀ {h c h' c' : ℕ} {A B : sProp 𝕄} {p : Pgm F},
      (iprop(Ctx X Wt K κ ∗ owe L d O h c ∗ A) ⊢ iprop(((owe L d O h' c' ∗ B) -∗ WP d k Q) -∗ WP d p Q)) →
      (iprop(Ctx X Wt K κ ∗ barFact L (dst L d) ∗ ins X Wt d ∗ owe L d O h c ∗ A)
        ⊢ iprop(((ins X Wt d ∗ owe L d O h' c' ∗ B) -∗ WP d k Q) -∗ WP d p Q)) := by
    intro h c h' c' A B p H
    iintro ⟨#HC, -, Hin, HA⟩ Hk
    iapply H $$ [HA]
    · isplitr; · iexact HC
      iexact HA
    iintro HB
    iapply Hk
    isplitl [Hin] <;> iassumption
  rcases (show s < 14 ∨ s = 14 ∨ s = 15 ∨ (16 ≤ s ∧ s < 28) ∨ s = 28 ∨ s = 29 by omega) with h | rfl | rfl | ⟨h, h'⟩ | rfl | rfl
  · rw [laneStep_add L d k h]
    unfold laneSt hIdx cIdx
    rw [if_pos (show s ≤ 15 by omega), if_pos (show s ≤ 15 by omega), if_pos (show s + 1 ≤ 15 by omega), if_pos (show s + 1 ≤ 15 by omega),
      Nat.min_eq_left (show s + 1 ≤ 30 by omega), Nat.min_eq_left (show s + 1 + 1 ≤ 30 by omega)]
    exact wp_addStep X Wt K κ L d O Q k h hO
  · exact wp_turnStep X Wt K κ L d O Q k hO
  · exact fwd (wp_fwd15 X Wt K κ L d O Q k hO)
  · rw [laneStep_fwd L d k (show 15 ≤ s by omega), decide_eq_false (show ¬ s = 15 by omega), decide_eq_true (show s < 29 by omega),
      decide_eq_true (show 16 ≤ s ∧ s ≤ 27 by omega)]
    unfold laneSt hIdx cIdx
    rw [if_neg (show ¬ s ≤ 15 by omega), if_pos (show s ≤ 28 by omega), if_neg (show ¬ s ≤ 15 by omega),
      if_neg (show ¬ s + 1 ≤ 15 by omega), if_pos (show s + 1 ≤ 28 by omega), if_neg (show ¬ s + 1 ≤ 15 by omega),
      Nat.min_eq_left (show s + 1 ≤ 30 by omega), Nat.min_eq_left (show s + 1 + 1 ≤ 30 by omega),
      Nat.min_eq_left (show s - 1 ≤ 27 by omega), Nat.min_eq_left (show s + 1 - 1 ≤ 27 by omega), Nat.add_sub_cancel]
    exact fwd (wp_fwdMid X Wt K κ L d O Q k h h' hO)
  · exact fwd (wp_fwd28 X Wt K κ L d O Q k hO)
  · exact fwd (wp_fwd29 X Wt K κ L d O Q k hO)

/-! ## The end -/

/-- After the last two waits: every cell is past its last round, every buffer is back, the chunks of the result are written. -/
def doneSt : sProp 𝕄 :=
  iprop(mid1 L d 29 27 ∗ sends L d 15 ∗ own1 d (recvV L (sl3 27)) ∗ own1 d (recvV L (sl3 28)) ∗ own1 d (recvV L (sl3 29))
    ∗ idle L d 16 ∗ idle L d 17 ∗ bigSep (Finset.range 16) (outDone X Wt L d))

theorem wp_drain (hO : Above 0 O) :
    iprop(Ctx X Wt K κ ∗ owing d O ∗ endSt X Wt L d)
      ⊢ iprop(((owing d O ∗ doneSt X Wt L d) -∗ WP d k Q) -∗ WP d (drain L d k) Q) := by
  iintro ⟨#HC, HO, Hst⟩ Hk
  unfold endSt doneSt flSt drain
  icases Hst with ⟨Hm, Hss, H1, H2, H3, -, Hd, Hf⟩
  have e : flMid L d 16 = (iprop(flight L d 14 ∗ flight L d 15) : sProp 𝕄) := rfl
  ihave Hf' := (Entails.of_eq e) $$ Hf
  icases Hf' with ⟨Hi, Hj⟩
  iapply (wp_waitOut X Wt K κ L d O Q _ (n := 14) (by omega) hO) $$ [HO Hi]
  · isplitr; · iexact HC
    isplitl [HO] <;> iassumption
  iintro ⟨HO, Hi, Ho⟩
  iapply (wp_waitOut X Wt K κ L d O Q _ (n := 15) (by omega) hO) $$ [HO Hj]
  · isplitr; · iexact HC
    isplitl [HO] <;> iassumption
  iintro ⟨HO, Hj, Ho'⟩
  iapply Hk
  isplitl [HO]; · iexact HO
  isplitl [Hm]; · iexact Hm
  isplitl [Hss]; · iexact Hss
  isplitl [H1]; · iexact H1
  isplitl [H2]; · iexact H2
  isplitl [H3]; · iexact H3
  isplitl [Hi]; · iexact Hi
  isplitl [Hj]; · iexact Hj
  iapply (Entails.of_eq (bigSep_last 15 (outDone X Wt L d)).symm)
  isplitl [Ho']; · iexact Ho'
  iapply (Entails.of_eq (bigSep_last 14 (outDone X Wt L d)).symm)
  isplitl [Ho] <;> iassumption

end Cert.Ring
-- ==== Proof.Program.lean ====
/-
  The body on one device: the barrier, the four lanes side by side, the closing of the cells.
-/
module

public import proofs.«01_k».proof.Proof.LaneRun

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## The four lanes -/

/-- One assertion for each lane. -/
def all (S : Lane → sProp 𝕄) : sProp 𝕄 := iprop(S .q0 ∗ S .q2 ∗ S .q1 ∗ S .q3)
/-- What the lanes owe together. -/
def tot (T : Lane → CellTallies nD τ sig ℕ) : CellTallies nD τ sig ℕ := T .q0 + T .q2 + T .q1 + T .q3

/-- The next devices' receive slots have been put down. -/
def bars : sProp 𝕄 := all fun L => barFact L (dst L d)
instance bars_persistent : BI.Persistent (bars d : sProp 𝕄) := by unfold bars all; infer_instance
theorem bars_get : (bars d : sProp 𝕄) ⊢ barFact L (dst L d) := by
  unfold bars all
  iintro ⟨#H0, #H2, #H1, #H3⟩
  cases L
  · iexact H0
  · iexact H2
  · iexact H1
  · iexact H3

theorem sum_turn0 {A : Type} [AddCommMonoid A] (a b c e : A) : a + b + c + e = b + c + e + a := by
  simp only [add_assoc, add_comm, add_left_comm]
theorem sum_turn1 {A : Type} [AddCommMonoid A] (b c e a : A) : b + c + e + a = a + c + e + b := by
  simp only [add_assoc, add_comm, add_left_comm]
theorem sum_turn2 {A : Type} [AddCommMonoid A] (a c e b : A) : a + c + e + b = a + b + e + c := by
  simp only [add_assoc, add_comm, add_left_comm]
theorem sum_turn3 {A : Type} [AddCommMonoid A] (a b e c : A) : a + b + e + c = a + b + c + e := by
  simp only [add_assoc, add_comm, add_left_comm]

/-- Something done on each lane in turn. -/
theorem wp_each {T₀ T₁ : Lane → CellTallies nD τ sig ℕ} {S₀ S₁ : Lane → sProp 𝕄} {A : sProp 𝕄} {n : ℕ} {f : Lane → Pgm F → Pgm F}
    (h₀ : ∀ L, Above n (T₀ L)) (h₁ : ∀ L, Above n (T₁ L))
    (step : ∀ (L : Lane) (O : CellTallies nD τ sig ℕ) (k : Pgm F), Above n O →
      iprop(Ctx X Wt K κ ∗ bars d ∗ A ∗ owing d (O + T₀ L) ∗ S₀ L) ⊢ iprop(((A ∗ owing d (O + T₁ L) ∗ S₁ L) -∗ WP d k Q) -∗ WP d (f L k) Q)) :
    iprop(Ctx X Wt K κ ∗ bars d ∗ A ∗ owing d (tot T₀) ∗ all S₀) ⊢ iprop(((A ∗ owing d (tot T₁) ∗ all S₁) -∗ WP d k Q) -∗ WP d (each f k) Q) := by
  have e0 : tot T₀ = T₀ .q2 + T₀ .q1 + T₀ .q3 + T₀ .q0 := sum_turn0 _ _ _ _
  have e1 : T₀ .q2 + T₀ .q1 + T₀ .q3 + T₁ .q0 = T₁ .q0 + T₀ .q1 + T₀ .q3 + T₀ .q2 := sum_turn1 _ _ _ _
  have e2 : T₁ .q0 + T₀ .q1 + T₀ .q3 + T₁ .q2 = T₁ .q0 + T₁ .q2 + T₀ .q3 + T₀ .q1 := sum_turn2 _ _ _ _
  have e3 : T₁ .q0 + T₁ .q2 + T₀ .q3 + T₁ .q1 = T₁ .q0 + T₁ .q2 + T₁ .q1 + T₀ .q3 := sum_turn3 _ _ _ _
  unfold all each
  rw [e0]
  iintro ⟨#HC, #HB, HA, HO, H0, H2, H1, H3⟩ Hk
  iapply (step .q0 _ _ (((h₀ .q2).add (h₀ .q1)).add (h₀ .q3))) $$ [HA HO H0]
  · isplitr; · iexact HC
    isplitr; · iexact HB
    isplitl [HA]; · iexact HA
    isplitl [HO] <;> iassumption
  iintro ⟨HA, HO, H0⟩
  rw [e1]
  iapply (step .q2 _ _ (((h₁ .q0).add (h₀ .q1)).add (h₀ .q3))) $$ [HA HO H2]
  · isplitr; · iexact HC
    isplitr; · iexact HB
    isplitl [HA]; · iexact HA
    isplitl [HO] <;> iassumption
  iintro ⟨HA, HO, H2⟩
  rw [e2]
  iapply (step .q1 _ _ (((h₁ .q0).add (h₁ .q2)).add (h₀ .q3))) $$ [HA HO H1]
  · isplitr; · iexact HC
    isplitr; · iexact HB
    isplitl [HA]; · iexact HA
    isplitl [HO] <;> iassumption
  iintro ⟨HA, HO, H1⟩
  rw [e3]
  iapply (step .q3 _ _ (((h₁ .q0).add (h₁ .q2)).add (h₁ .q1))) $$ [HA HO H3]
  · isplitr; · iexact HC
    isplitr; · iexact HB
    isplitl [HA]; · iexact HA
    isplitl [HO] <;> iassumption
  iintro ⟨HA, HO, H3⟩
  iapply Hk
  isplitl [HA]; · iexact HA
  isplitl [HO]; · iexact HO
  isplitl [H0]; · iexact H0
  isplitl [H2]; · iexact H2
  isplitl [H1] <;> iassumption

/-- What a lane owes when its next hop is `h` and its next credit `c`. -/
def owL (h c : ℕ) : CellTallies nD τ sig ℕ := owC L d c + owH L d h

theorem owL_above {n h c : ℕ} (hh : n < 10 * h + 10) (hc : n < 10 * c + 25) : Above n (owL L d h c) := (owC_above L d hc).add (owH_above L d hh)
theorem owe_owL (h c : ℕ) : (owe L d O h c : sProp 𝕄) = owing d (O + owL L d h c) := by unfold owe owL; rw [add_assoc]

theorem idx_above {s n : ℕ} (hs : s < 30) (h : n = s ∨ n = s + 1) : Above (10 * s + 10) (owL L d (hIdx n) (cIdx n)) := by
  by_cases h27 : n ≤ 28
  · apply owL_above
    · unfold hIdx; omega
    · unfold cIdx; split <;> omega
  · have e : owL L d (hIdx n) (cIdx n) = 0 := by
      unfold owL hIdx cIdx
      rw [if_neg (by omega), owC_end L d (by omega), owH_end L d (by omega), add_zero]
    rw [e]; exact Above.zero

theorem wp_stepAll {s : ℕ} (hs : s < 30) :
    iprop(Ctx X Wt K κ ∗ bars d ∗ ins X Wt d ∗ owing d (tot fun L => owL L d (hIdx s) (cIdx s)) ∗ all fun L => laneSt X Wt L d s)
      ⊢ iprop(((ins X Wt d ∗ owing d (tot fun L => owL L d (hIdx (s + 1)) (cIdx (s + 1))) ∗ all fun L => laneSt X Wt L d (s + 1)) -∗ WP d k Q)
          -∗ WP d (each (fun L => laneStep L d s) k) Q) :=
  wp_each X Wt K κ d Q k (n := 10 * s + 10) (fun L => idx_above L d hs (.inl rfl)) (fun L => idx_above L d hs (.inr rfl)) fun L O k hO => by
    have H := wp_laneStep X Wt K κ L d O Q k hs hO
    rw [owe_owL, owe_owL] at H
    iintro ⟨#HC, #HB, HA⟩ Hk
    iapply H $$ [HA]
    · isplitr; · iexact HC
      isplitr; · iapply (bars_get L d) $$ HB
      iexact HA
    iexact Hk

theorem wp_steps (n : ℕ) : ∀ s, s + n = 30 →
    iprop(Ctx X Wt K κ ∗ bars d ∗ ins X Wt d ∗ owing d (tot fun L => owL L d (hIdx s) (cIdx s)) ∗ all fun L => laneSt X Wt L d s)
      ⊢ iprop(((ins X Wt d ∗ owing d (tot fun L => owL L d (hIdx 30) (cIdx 30)) ∗ all fun L => laneSt X Wt L d 30) -∗ WP d k Q)
          -∗ WP d (steps d n s k) Q) := by
  induction n with
  | zero =>
    intro s hs
    obtain rfl : s = 30 := hs
    iintro ⟨-, -, HA⟩ Hk
    rw [show steps d 0 30 k = k from rfl]
    iapply Hk $$ HA
  | succ n ih =>
    intro s hs
    iintro ⟨#HC, #HB, HA⟩ Hk
    rw [show steps d (n + 1) s k = each (fun L => laneStep L d s) (steps d n (s + 1) k) from rfl]
    iapply (wp_stepAll X Wt K κ d Q _ (s := s) (by omega)) $$ [HA]
    · isplitr; · iexact HC
      isplitr; · iexact HB
      iexact HA
    iintro HA
    iapply (ih (s + 1) (by omega)) $$ [HA]
    · isplitr; · iexact HC
      isplitr; · iexact HB
      iexact HA
    iexact Hk

theorem wp_startAll :
    iprop(Ctx X Wt K κ ∗ bars d ∗ ins X Wt d ∗ owing d (tot fun L => owL L d 0 0) ∗ all fun L => initSt X Wt L d)
      ⊢ iprop(((ins X Wt d ∗ owing d (tot fun L => owL L d (hIdx 0) (cIdx 0)) ∗ all fun L => laneSt X Wt L d 0) -∗ WP d k Q)
          -∗ WP d (each (fun L => start L d) k) Q) :=
  wp_each X Wt K κ d Q k (n := 0) (fun L => owL_above L d (by omega) (by omega)) (fun L => (idx_above L d (s := 0) (by omega) (.inl rfl)).mono (by omega))
    fun L O k hO => by
    have H := wp_start X Wt K κ L d O Q k
    rw [owe_owL, owe_owL] at H
    iintro ⟨#HC, #HB, HA⟩ Hk
    iapply H $$ [HA]
    · isplitr; · iexact HC
      isplitr; · iapply (bars_get L d) $$ HB
      iexact HA
    iexact Hk

theorem wp_drainAll :
    iprop(Ctx X Wt K κ ∗ bars d ∗ ins X Wt d ∗ owing d (tot fun L => owL L d (hIdx 30) (cIdx 30)) ∗ all fun L => laneSt X Wt L d 30)
      ⊢ iprop(((ins X Wt d ∗ owing d (tot fun L => owL L d (hIdx 30) (cIdx 30)) ∗ all fun L => doneSt X Wt L d) -∗ WP d k Q)
          -∗ WP d (each (fun L => drain L d) k) Q) :=
  have h : ∀ L, Above 0 (owL L d (hIdx 30) (cIdx 30)) := fun L => (idx_above L d (s := 29) (by omega) (.inr rfl)).mono (by omega)
  wp_each X Wt K κ d Q k (n := 0) h h fun L O k hO => by
    have H := wp_drain X Wt K κ L d (O + owL L d (hIdx 30) (cIdx 30)) Q k (hO.add (h L))
    have e : laneSt X Wt L d 30 = endSt X Wt L d := by
      unfold laneSt; rw [if_neg (by decide), if_neg (by decide), if_neg (by decide)]
    rw [e]
    iintro ⟨#HC, #HB, HA, HO, HS⟩ Hk
    iapply H $$ [HO HS]
    · isplitr; · iexact HC
      isplitl [HO]; · iexact HO
      iexact HS
    iintro ⟨HO, HS⟩
    iapply Hk
    isplitl [HA]; · iexact HA
    isplitl [HO] <;> iassumption

theorem tot_end : (tot fun L => owL L d (hIdx 30) (cIdx 30)) = 0 := by
  have h : ∀ L, owL L d (hIdx 30) (cIdx 30) = 0 := fun L => by
    unfold owL; rw [owC_end L d (by decide), owH_end L d (by decide), add_zero]
  unfold tot; simp only [h, add_zero]

/-! ## The barrier -/

theorem wp_barSig (e : Dev nD) {t : ℕ} (ht : t < 2) :
    iprop(Ctx X Wt K κ ∗ owing d (O + tallyAt (cell e kBar) 0 1) ∗ dutyTok ER (cell e kBar) 0 t ∗ barPay e t)
      ⊢ iprop((owing d O -∗ WP d k Q) -∗ WP d (.op (.semSignal (e, .tc) barQ (1#32 : BitVec 32).toInt) fun _ => k) Q) := by
  iintro ⟨#HC, HO, Ht, Hp⟩ Hk
  unfold owing
  icases HO with ⟨%W, HO⟩
  iapply (Rounds.wp_signal 𝒱₀ ER (Rd X Wt) (d : Thread nD τ) none (dst := (e, .tc)) (κ := K (e, kBar)) (r := 0) (d := t)
    (by
      rw [show ((e, Idealize.ShloMosaic.Proc.tc), SemLoc.reg barQ) = cell e kBar from rfl, Rd_duties]
      show t ∈ ({0, 1} : Finset ℕ)
      rcases (show t = 0 ∨ t = 1 by omega) with rfl | rfl <;> decide)
    (Rd_amount X Wt e kBar 0 t) 0 O rfl (W := W)) $$ [HO Ht Hp]
  · isplitr; · iapply (Ctx_cell X Wt K κ e kBar) $$ HC
    isplitl [HO]; · iexact HO
    isplitl [Ht]; · iexact Ht
    isplitl [Hp]
    · iapply (Entails.of_eq ((Rd_payload X Wt e kBar 0 t).trans (show payK X Wt e kBar 0 t = barPay e t from rfl)).symm) $$ Hp
    iapply (Ctx_reached X Wt K κ e kBar) $$ HC
  iintro HO
  iapply Hk
  iexists W; iexact HO

theorem wp_barWait (hO : Above 5 O) :
    iprop(Ctx X Wt K κ ∗ cred (tallyAt (cell d kBar) 0 2) ∗ owing d O ∗ atPos ER (cell d kBar) 0 ∅ 0)
      ⊢ iprop(((owing d O ∗ atPos ER (cell d kBar) 1 ∅ 0 ∗ barPay d 0 ∗ barPay d 1) -∗ WP d k Q)
          -∗ WP d (.op (.semWait barQ (2#32 : BitVec 32).toInt) fun _ => k) Q) := by
  iintro ⟨#HC, Hc, HO, Hat⟩ Hk
  unfold owing
  icases HO with ⟨%W, HO⟩
  iapply (Rounds.wp_wait_rest_token 𝒱₀ ER (Rd X Wt) (d : Thread nD τ) none (κ := K (d, kBar)) (sm := csem kBar)
    (wpE_semWait_eq 𝒱₀ (d : Thread nD τ) none Set.univ) (Set.mem_univ _) 0
    (O := O) (W := W) (R := 0) (m := 0) (T := ∅) (by rw [Rd_expect]; decide)) $$ [Hc HO Hat]
  · isplitr; · iapply (Ctx_cell X Wt K κ d kBar) $$ HC
    isplitl [Hc]; · iexact Hc
    isplitl [HO]; · iexact HO
    isplitr
    · iapply (Ctx_wait X Wt K κ d O (q := kBar) (u := 0) (n := 5) (by omega) le_rfl hO) $$ HC
    iexact Hat
  iintro ⟨HO, Hat, Hr, Hp⟩
  iapply Hk
  isplitl [HO]; · iexists _; iexact HO
  isplitl [Hat]; · iexact Hat
  have e : bigSep ((Rd X Wt).duties (cell d kBar) 0 \ ∅) (fun t => (Rd X Wt).payload (cell d kBar) 0 t) = iprop(barPay d 0 ∗ barPay d 1) := by
    rw [Rd_duties, Finset.sdiff_empty, bigSep_congr fun t _ => Rd_payload X Wt d kBar 0 t]
    show bigSep ({0, 1} : Finset ℕ) (fun t => barPay d t) = _
    rw [bigSep_cons (by decide), bigSep_singleton]
  iapply (Entails.of_eq e) $$ Hp

/-- A lane's receive slots, before they are put down. -/
def slots0 : sProp 𝕄 :=
  iprop((readerAt EL (d, L, (0 : Fin 3)) 0 ∗ readerAt EL (d, L, (1 : Fin 3)) 0 ∗ readerAt EL (d, L, (2 : Fin 3)) 0)
    ∗ own1 d (recvV L 0) ∗ own1 d (recvV L 1) ∗ own1 d (recvV L 2))

theorem lane_down : iprop(Ctx X Wt K κ ∗ slots0 L d) ⊢ (|={Set.univ}=> ((rdr L d 0 ∗ rdr L d 1 ∗ rdr L d 2) ∗ barFact L d) : sProp 𝕄) := by
  unfold slots0
  iintro ⟨#HC, ⟨Hr0, Hr1, Hr2⟩, H0, H1, H2⟩
  imod (putBack X Wt K κ L d (n := 0) 0) $$ [Hr0 H0] with ⟨Hr0, #Hb0⟩
  · isplitr; · iexact HC
    isplitl [Hr0] <;> iassumption
  imod (putBack X Wt K κ L d (n := 0) 1) $$ [Hr1 H1] with ⟨Hr1, #Hb1⟩
  · isplitr; · iexact HC
    isplitl [Hr1] <;> iassumption
  imod (putBack X Wt K κ L d (n := 0) 2) $$ [Hr2 H2] with ⟨Hr2, #Hb2⟩
  · isplitr; · iexact HC
    isplitl [Hr2] <;> iassumption
  imodintro
  isplitl
  · have e0 : (rdr L d 0 : sProp 𝕄) = readerAt EL (d, L, (0 : Fin 3)) (0 + 1) := rfl
    have e1 : (rdr L d 1 : sProp 𝕄) = readerAt EL (d, L, (1 : Fin 3)) (0 + 1) := rfl
    have e2 : (rdr L d 2 : sProp 𝕄) = readerAt EL (d, L, (2 : Fin 3)) (0 + 1) := rfl
    rw [e0, e1, e2]
    isplitl [Hr0]; · iexact Hr0
    isplitl [Hr1]; · iexact Hr1
    iexact Hr2
  unfold barFact
  isplitr; · iexact Hb0
  isplitr; · iexact Hb1
  iexact Hb2

/-- A lane before the barrier, its receive slots aside. -/
def preSt : sProp 𝕄 :=
  iprop((hpos L d 0 ∗ hpos L d 1 ∗ hpos L d 2) ∗ bigSep (Finset.Ico 0 30) (inCred L d) ∗ bigSep (Finset.Ico 0 30) (hopTok L d)
    ∗ bigSep (Finset.Ico 0 27) (crCred L d) ∗ credSt L d 0 ∗ crSt L d 0 ∗ sends L d 0 ∗ flSt X Wt L d 0)

theorem pre_init : iprop(preSt X Wt L d ∗ (rdr L d 0 ∗ rdr L d 1 ∗ rdr L d 2)) ⊢ initSt X Wt L d := by
  unfold preSt initSt
  iintro ⟨⟨H1, H2, H3, H4, H5, H6, H7, H8⟩, Hr⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hr] <;> iassumption

/-- What a device owes from the start: its lanes' hops and credits, and its two arrivals. -/
def O₀ : CellTallies nD τ sig ℕ :=
  (tot fun L => owL L d 0 0) + tallyAt (cell (rightD d) kBar) 0 1 + tallyAt (cell (leftD d) kBar) 0 1

/-- What a device holds for the barrier. -/
def barSt : sProp 𝕄 :=
  iprop(atPos ER (cell d kBar) 0 ∅ 0 ∗ cred (tallyAt (cell d kBar) 0 2) ∗ dutyTok ER (cell (leftD d) kBar) 0 1 ∗ dutyTok ER (cell (rightD d) kBar) 0 0)

/-- The whole body, up to its last wait. -/
theorem wp_prog :
    iprop(Ctx X Wt K κ ∗ ins X Wt d ∗ owing d (O₀ d) ∗ barSt d ∗ (all fun L => slots0 L d) ∗ all fun L => preSt X Wt L d)
      ⊢ iprop(((ins X Wt d ∗ owing d 0 ∗ atPos ER (cell d kBar) 1 ∅ 0 ∗ all fun L => doneSt X Wt L d) -∗ WP d (.ret ⟨⟩) Q)
          -∗ WP d prog Q) := by
  have hp : WP d (prog : Pgm F) Q = WP d (.op (.semSignal (leftD d, .tc) barQ (1#32 : BitVec 32).toInt) fun _ =>
    .op (.semSignal (rightD d, .tc) barQ (1#32 : BitVec 32).toInt) fun _ =>
    .op (.semWait barQ (2#32 : BitVec 32).toInt) fun _ =>
    each (fun L => start L d) <| steps d 30 0 <| each (fun L => drain L d) <| .ret ⟨⟩) Q := by
    show WP d (.op .deviceId fun d => _) Q = _
    simp only [WP, wp_deviceId]
  rw [hp]
  unfold barSt O₀
  have es : (all fun L => slots0 L d : sProp 𝕄) = iprop(slots0 .q0 d ∗ slots0 .q2 d ∗ slots0 .q1 d ∗ slots0 .q3 d) := rfl
  have ep : (all fun L => preSt X Wt L d) = iprop(preSt X Wt .q0 d ∗ preSt X Wt .q2 d ∗ preSt X Wt .q1 d ∗ preSt X Wt .q3 d) := rfl
  rw [es, ep]
  iintro ⟨#HC, Hin, HO, ⟨Hat, Hcb, Ht1, Ht0⟩, ⟨Hs0, Hs2, Hs1, Hs3⟩, ⟨Hp0, Hp2, Hp1, Hp3⟩⟩ Hk
  imod (lane_down X Wt K κ .q0 d) $$ [Hs0] with ⟨Hr0, #Hb0⟩
  · isplitr; · iexact HC
    iexact Hs0
  imod (lane_down X Wt K κ .q2 d) $$ [Hs2] with ⟨Hr2, #Hb2⟩
  · isplitr; · iexact HC
    iexact Hs2
  imod (lane_down X Wt K κ .q1 d) $$ [Hs1] with ⟨Hr1, #Hb1⟩
  · isplitr; · iexact HC
    iexact Hs1
  imod (lane_down X Wt K κ .q3 d) $$ [Hs3] with ⟨Hr3, #Hb3⟩
  · isplitr; · iexact HC
    iexact Hs3
  iapply (wp_barSig X Wt K κ d _ Q _ (leftD d) (t := 1) (by omega)) $$ [HO Ht1]
  · isplitr; · iexact HC
    isplitl [HO]; · iexact HO
    isplitl [Ht1]; · iexact Ht1
    unfold barPay
    rw [if_neg (by decide), right_left]
    isplitr; · iexact Hb0
    iexact Hb1
  iintro HO
  iapply (wp_barSig X Wt K κ d _ Q _ (rightD d) (t := 0) (by omega)) $$ [HO Ht0]
  · isplitr; · iexact HC
    isplitl [HO]; · iexact HO
    isplitl [Ht0]; · iexact Ht0
    unfold barPay
    rw [if_pos rfl, left_right]
    isplitr; · iexact Hb2
    iexact Hb3
  iintro HO
  have ha : Above 5 (tot fun L => owL L d 0 0) :=
    (((owL_above .q0 d (by omega) (by omega)).add (owL_above .q2 d (by omega) (by omega))).add (owL_above .q1 d (by omega) (by omega))).add
      (owL_above .q3 d (by omega) (by omega))
  iapply (wp_barWait X Wt K κ d _ Q _ ha) $$ [HO Hat Hcb]
  · isplitr; · iexact HC
    isplitl [Hcb]; · iexact Hcb
    isplitl [HO] <;> iassumption
  iintro ⟨HO, Hat, Hpay0, Hpay1⟩
  have hb : iprop(barPay d 0 ∗ barPay d 1) ⊢ (bars d : sProp 𝕄) := by
    unfold barPay bars all
    rw [if_pos rfl, if_neg (by decide)]
    iintro ⟨⟨#H2, #H3⟩, #H0, #H1⟩
    isplitr; · iexact H0
    isplitr; · iexact H2
    isplitr; · iexact H1
    iexact H3
  ihave HB := hb $$ [Hpay0 Hpay1]
  · isplitl [Hpay0] <;> iassumption
  icases HB with #HB
  iapply (wp_startAll X Wt K κ d Q _) $$ [Hin HO Hr0 Hr1 Hr2 Hr3 Hp0 Hp1 Hp2 Hp3]
  · isplitr; · iexact HC
    isplitr; · iexact HB
    isplitl [Hin]; · iexact Hin
    isplitl [HO]; · iexact HO
    unfold all
    isplitl [Hp0 Hr0]
    · iapply (pre_init X Wt .q0 d)
      isplitl [Hp0] <;> iassumption
    isplitl [Hp2 Hr2]
    · iapply (pre_init X Wt .q2 d)
      isplitl [Hp2] <;> iassumption
    isplitl [Hp1 Hr1]
    · iapply (pre_init X Wt .q1 d)
      isplitl [Hp1] <;> iassumption
    iapply (pre_init X Wt .q3 d)
    isplitl [Hp3] <;> iassumption
  iintro HA
  iapply (wp_steps X Wt K κ d Q _ 30 0 rfl) $$ [HA]
  · isplitr; · iexact HC
    isplitr; · iexact HB
    iexact HA
  iintro HA
  iapply (wp_drainAll X Wt K κ d Q _) $$ [HA]
  · isplitr; · iexact HC
    isplitr; · iexact HB
    iexact HA
  rw [tot_end]
  iintro ⟨Hin, HO, Hd⟩
  iapply Hk
  isplitl [Hin]; · iexact Hin
  isplitl [HO]; · iexact HO
  isplitl [Hat] <;> iassumption

end Cert.Ring
-- ==== Proof.Close.lean ====
/-
  After the last wait: every cell closes at zero, every buffer is whole again.
-/
module

public import proofs.«01_k».proof.Proof.Program

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## The cells, lane by lane -/

/-- An assertion of each of a lane's semaphores. -/
def laneOf (S : CK → sProp 𝕄) (L : Lane) : sProp 𝕄 :=
  iprop((S (kSend L 0) ∗ S (kSend L 1) ∗ S (kSend L 2)) ∗ (S (kRecv L 0) ∗ S (kRecv L 1) ∗ S (kRecv L 2)) ∗ (S (kCopy L 0) ∗ S (kCopy L 1)) ∗ S (kCred L))

theorem bigSep_fin3 (S : Fin 3 → sProp 𝕄) : bigSep Finset.univ S = iprop(S 0 ∗ S 1 ∗ S 2) := bigSep_univ_eq_bigSepL [0, 1, 2] (by decide) (by decide) S
theorem bigSep_fin2 (S : Fin 2 → sProp 𝕄) : bigSep Finset.univ S = iprop(S 0 ∗ S 1) := bigSep_univ_eq_bigSepL [0, 1] (by decide) (by decide) S
theorem bigSep_lane (S : Lane → sProp 𝕄) : bigSep Finset.univ S = all S := by
  rw [bigSep_univ_eq_bigSepL [Lane.q0, Lane.q2, Lane.q1, Lane.q3] (by decide) (by decide) S]; rfl

/-- The kernel's own semaphores: all but the barrier's. -/
abbrev OK : Type := (Lane × Fin 3) ⊕ (Lane × Fin 3) ⊕ (Lane × Fin 2) ⊕ Lane
def ofOK : OK → CK
  | .inl p => .inl p
  | .inr (.inl p) => .inr (.inl p)
  | .inr (.inr (.inl p)) => .inr (.inr (.inl p))
  | .inr (.inr (.inr L)) => .inr (.inr (.inr (.inl L)))

theorem bigSep_OK (S : CK → sProp 𝕄) : bigSep Finset.univ (fun o : OK => S (ofOK o)) = bigSep Finset.univ (laneOf S) := by
  have e : laneOf S = fun L => iprop((bigSep Finset.univ fun j : Fin 3 => S (kSend L j)) ∗ (bigSep Finset.univ fun j : Fin 3 => S (kRecv L j))
      ∗ (bigSep Finset.univ fun j : Fin 2 => S (kCopy L j)) ∗ S (kCred L)) := by
    funext L; rw [bigSep_fin3, bigSep_fin3, bigSep_fin2]; rfl
  rw [e, bigSep_univ_sum, bigSep_univ_sum, bigSep_univ_sum, bigSep_univ_prod, bigSep_univ_prod, bigSep_univ_prod, bigSep_sep', bigSep_sep', bigSep_sep']
  rfl

theorem bigSep_CK (S : CK → sProp 𝕄) : bigSep Finset.univ S = iprop(bigSep Finset.univ (laneOf S) ∗ S kBar) := by
  rw [← bigSep_OK, bigSep_univ_sum, bigSep_univ_sum, bigSep_univ_sum, bigSep_univ_sum, bigSep_univ_sum (α := Lane × Fin 3), bigSep_univ_sum (α := Lane × Fin 3),
    bigSep_univ_sum (α := Lane × Fin 2), bigSep_univ_of_subsingleton ()]
  have a (P Q R : sProp 𝕄) : iprop((P ∗ Q) ∗ R) = iprop(P ∗ Q ∗ R) := Entails.antisymm BI.sep_assoc BI.sep_assoc'
  exact Eq.symm ((a _ _ _).trans (congrArg (BI.sep _) ((a _ _ _).trans (congrArg (BI.sep _) (a _ _ _)))))

/-! ## Closing -/

theorem later_dma {d : Dev nD} {L : Lane} {j : Fin 3} {R : ℕ} (h : 10 ≤ R) :
    (∀ r, R ≤ r → (Rd X Wt).duties (cell d (kSend L j)) r = ∅) ∧ (∀ r, R ≤ r → (Rd X Wt).duties (cell d (kRecv L j)) r = ∅) :=
  ⟨fun r hr => by rw [Rd_duties]; exact if_neg (by omega), fun r hr => by rw [Rd_duties]; exact if_neg (by omega)⟩

theorem later_copy {d : Dev nD} {L : Lane} {i : Fin 2} {R : ℕ} (h : 8 ≤ R) (r : ℕ) (hr : R ≤ r) : (Rd X Wt).duties (cell d (kCopy L i)) r = ∅ := by
  rw [Rd_duties]; exact if_neg (by omega)
theorem later_cred {d : Dev nD} {L : Lane} {R : ℕ} (h : 1 ≤ R) (r : ℕ) (hr : R ≤ r) : (Rd X Wt).duties (cell d (kCred L)) r = ∅ := by
  rw [Rd_duties]; exact if_neg (by omega)
theorem later_bar {d : Dev nD} {R : ℕ} (h : 1 ≤ R) (r : ℕ) (hr : R ≤ r) : (Rd X Wt).duties (cell d kBar) r = ∅ := by
  rw [Rd_duties]; exact if_neg (by omega)

theorem hop_close {h : ℕ} (hh : 30 ≤ h) :
    iprop(Ctx X Wt K κ ∗ hpos L d h) ⊢ (|={Set.univ}=> (semVal (cell d (kSend L (sl3 h))) 0 ∗ semVal (cell d (kRecv L (sl3 h))) 0) : sProp 𝕄) := by
  unfold hpos
  iintro ⟨#HC, Hs, -, Hr, -⟩
  imod (Rounds.cell_close ER (Rd X Wt) (Set.mem_univ (K (d, kSend L (sl3 h)))) (fun h => h) (R := h / 3)
    (later_dma X Wt (d := d) (L := L) (j := sl3 h) (R := h / 3) (by omega)).1) $$ [Hs] with Hs
  · isplitr; · iapply (Ctx_cell X Wt K κ d _) $$ HC
    iexact Hs
  imod (Rounds.cell_close ER (Rd X Wt) (Set.mem_univ (K (d, kRecv L (sl3 h)))) (fun h => h) (R := h / 3)
    (later_dma X Wt (d := d) (L := L) (j := sl3 h) (R := h / 3) (by omega)).2) $$ [Hr] with Hr
  · isplitr; · iapply (Ctx_cell X Wt K κ d _) $$ HC
    iexact Hr
  imodintro
  isplitl [Hs] <;> iassumption

theorem copy_close {n : ℕ} (hn : 16 ≤ n) :
    iprop(Ctx X Wt K κ ∗ idle L d n) ⊢ (|={Set.univ}=> (semVal (cell d (kCopy L (sl2 n))) 0 ∗ own1 d (stageV L (sl2 n))) : sProp 𝕄) := by
  unfold idle fpos
  iintro ⟨#HC, ⟨Hs, -⟩, Hb⟩
  imod (Rounds.cell_close ER (Rd X Wt) (Set.mem_univ (K (d, kCopy L (sl2 n)))) (fun h => h) (R := n / 2)
    (later_copy X Wt (d := d) (L := L) (i := sl2 n) (by omega))) $$ [Hs] with Hs
  · isplitr; · iapply (Ctx_cell X Wt K κ d _) $$ HC
    iexact Hs
  imodintro
  isplitl [Hs] <;> iassumption

theorem cred_close : iprop(Ctx X Wt K κ ∗ credSt L d 27) ⊢ (|={Set.univ}=> semVal (cell d (kCred L)) 0 : sProp 𝕄) := by
  unfold credSt
  iintro ⟨#HC, ⟨%S, %hS, Hat, -⟩⟩
  have hS' : S = Finset.range 27 := Finset.eq_of_subset_of_card_le hS.1 (by rw [Finset.card_range]; exact hS.2)
  subst hS'
  imod (Rounds.fupd_skip ER (Rd X Wt) (κ := K (d, kCred L)) (g := cell d (kCred L)) (R := 0) (m := 27) (T := Finset.range 27)
    (by rw [Rd_duties]; exact Finset.Subset.refl _) (by rw [Rd_expect]; exact (show (27 : ℕ) = (Finset.range 27).card * 1 by decide)) (Set.mem_univ _)) $$ [Hat] with ⟨Hat, -⟩
  · isplitr; · iapply (Ctx_cell X Wt K κ d _) $$ HC
    iexact Hat
  imod (Rounds.cell_close ER (Rd X Wt) (Set.mem_univ (K (d, kCred L))) (fun h => h) (R := 0 + 1)
    (later_cred X Wt (d := d) (L := L) (by omega))) $$ [Hat] with Hs
  · isplitr; · iapply (Ctx_cell X Wt K κ d _) $$ HC
    iexact Hat
  imodintro
  iexact Hs

theorem bar_close : iprop(Ctx X Wt K κ ∗ atPos ER (cell d kBar) 1 ∅ 0) ⊢ (|={Set.univ}=> semVal (cell d kBar) 0 : sProp 𝕄) := by
  iintro ⟨#HC, Hat⟩
  imod (Rounds.cell_close ER (Rd X Wt) (Set.mem_univ (K (d, kBar))) (fun h => h) (R := 1)
    (later_bar X Wt (d := d) (by omega))) $$ [Hat] with Hs
  · isplitr; · iapply (Ctx_cell X Wt K κ d _) $$ HC
    iexact Hat
  imodintro
  iexact Hs

/-- A lane's slots. -/
def laneBufs : sProp 𝕄 :=
  iprop((own1 d (sendV L 0) ∗ own1 d (sendV L 1) ∗ own1 d (sendV L 2)) ∗ (own1 d (recvV L 0) ∗ own1 d (recvV L 1) ∗ own1 d (recvV L 2))
    ∗ own1 d (stageV L 0) ∗ own1 d (stageV L 1))

theorem lane_close :
    iprop(Ctx X Wt K κ ∗ doneSt X Wt L d)
      ⊢ (|={Set.univ}=> (laneOf (fun k => semVal (cell d k) 0) L ∗ laneBufs L d ∗ bigSep (Finset.range 16) (outDone X Wt L d)) : sProp 𝕄) := by
  unfold doneSt mid1 laneOf laneBufs sends
  have e0 : ∀ h, sl3 (h + 3) = sl3 h := sl3_add
  iintro ⟨#HC, ⟨H30, H31, H32, -, -, -, Hc⟩, ⟨Hs0, Hs1, Hs2⟩, Hr0, Hr1, Hr2, Hi0, Hi1, Hout⟩
  imod (hop_close X Wt K κ L d (h := 30) (by decide)) $$ [H30] with ⟨Hs30, Hr30⟩
  · isplitr; · iexact HC
    iexact H30
  imod (hop_close X Wt K κ L d (h := 31) (by decide)) $$ [H31] with ⟨Hs31, Hr31⟩
  · isplitr; · iexact HC
    iexact H31
  imod (hop_close X Wt K κ L d (h := 32) (by decide)) $$ [H32] with ⟨Hs32, Hr32⟩
  · isplitr; · iexact HC
    iexact H32
  imod (cred_close X Wt K κ L d) $$ [Hc] with Hc
  · isplitr; · iexact HC
    iexact Hc
  imod (copy_close X Wt K κ L d (n := 16) (by decide)) $$ [Hi0] with ⟨Hi0, Hb0⟩
  · isplitr; · iexact HC
    iexact Hi0
  imod (copy_close X Wt K κ L d (n := 17) (by decide)) $$ [Hi1] with ⟨Hi1, Hb1⟩
  · isplitr; · iexact HC
    iexact Hi1
  imodintro
  have h30 : sl3 30 = 0 := rfl
  have h31 : sl3 31 = 1 := rfl
  have h32 : sl3 32 = 2 := rfl
  have h16 : sl2 16 = 0 := rfl
  have h17 : sl2 17 = 1 := rfl
  have h15 : sl3 15 = 0 := rfl
  have h15' : sl3 (15 + 1) = 1 := rfl
  have h15'' : sl3 (15 + 2) = 2 := rfl
  have h27 : sl3 27 = 0 := rfl
  have h28 : sl3 28 = 1 := rfl
  have h29 : sl3 29 = 2 := rfl
  rw [h30, h31, h32, h16, h17, h15, h15', h15'', h27, h28, h29]
  isplitr [Hs0 Hs1 Hs2 Hr0 Hr1 Hr2 Hb0 Hb1 Hout]
  · isplitl [Hs30 Hs31 Hs32]
    · isplitl [Hs30]; · iexact Hs30
      isplitl [Hs31] <;> iassumption
    isplitl [Hr30 Hr31 Hr32]
    · isplitl [Hr30]; · iexact Hr30
      isplitl [Hr31] <;> iassumption
    isplitl [Hi0 Hi1]
    · isplitl [Hi0] <;> iassumption
    iexact Hc
  isplitr [Hout]
  · isplitl [Hs0 Hs1 Hs2]
    · isplitl [Hs0]; · iexact Hs0
      isplitl [Hs1] <;> iassumption
    isplitl [Hr0 Hr1 Hr2]
    · isplitl [Hr0]; · iexact Hr0
      isplitl [Hr1] <;> iassumption
    isplitl [Hb0] <;> iassumption
  iexact Hout

/-- A device when its body ends. -/
def endAll : sProp 𝕄 :=
  iprop((all fun L => laneOf (fun k => semVal (cell d k) 0) L) ∗ semVal (cell d kBar) 0 ∗ (all fun L => laneBufs L d)
    ∗ all fun L => bigSep (Finset.range 16) (outDone X Wt L d))

theorem close_all :
    iprop(Ctx X Wt K κ ∗ atPos ER (cell d kBar) 1 ∅ 0 ∗ all fun L => doneSt X Wt L d) ⊢ (|={Set.univ}=> endAll X Wt d : sProp 𝕄) := by
  unfold endAll all
  iintro ⟨#HC, Hb, H0, H2, H1, H3⟩
  imod (bar_close X Wt K κ d) $$ [Hb] with Hb
  · isplitr; · iexact HC
    iexact Hb
  imod (lane_close X Wt K κ .q0 d) $$ [H0] with ⟨Ha0, Hb0, Hc0⟩
  · isplitr; · iexact HC
    iexact H0
  imod (lane_close X Wt K κ .q2 d) $$ [H2] with ⟨Ha2, Hb2, Hc2⟩
  · isplitr; · iexact HC
    iexact H2
  imod (lane_close X Wt K κ .q1 d) $$ [H1] with ⟨Ha1, Hb1, Hc1⟩
  · isplitr; · iexact HC
    iexact H1
  imod (lane_close X Wt K κ .q3 d) $$ [H3] with ⟨Ha3, Hb3, Hc3⟩
  · isplitr; · iexact HC
    iexact H3
  imodintro
  isplitl [Ha0 Ha2 Ha1 Ha3]
  · isplitl [Ha0]; · iexact Ha0
    isplitl [Ha2]; · iexact Ha2
    isplitl [Ha1] <;> iassumption
  isplitl [Hb]; · iexact Hb
  isplitl [Hb0 Hb2 Hb1 Hb3]
  · isplitl [Hb0]; · iexact Hb0
    isplitl [Hb2]; · iexact Hb2
    isplitl [Hb1] <;> iassumption
  isplitl [Hc0]; · iexact Hc0
  isplitl [Hc2]; · iexact Hc2
  isplitl [Hc1] <;> iassumption

end Cert.Ring
-- ==== Proof.Buffers.lean ====
/-
  The buffers cut into the slots and chunks the lanes use, and put together again.
-/
module

public import Idealize.ShloMosaic.Lib.Ring
public import proofs.«01_k».proof.Proof.Close
public import proofs.«01_k».proof.Proof.Gen.KernelIdeal.Launch

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release Idealize.ShloMosaic.Ring

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## Slots of a scratch buffer -/

theorem rect3_disj (j j' : Fin 3) (h : j ≠ j') : Disjoint (rect3 j).set (rect3 j').set := by
  rw [Finset.disjoint_left]
  intro i hi hi'
  have h1 : j.val ≤ (i 0 : ℕ) ∧ (i 0 : ℕ) < j.val + 1 := Rect.mem_set_unit.1 hi 0
  have h2 : j'.val ≤ (i 0 : ℕ) ∧ (i 0 : ℕ) < j'.val + 1 := Rect.mem_set_unit.1 hi' 0
  exact h (Fin.ext (by omega))
theorem rect3_cover : Finset.univ.biUnion (fun j => (rect3 j).set) = Finset.univ := by
  ext i
  simp only [Finset.mem_biUnion, Finset.mem_univ, true_and, iff_true]
  have h0 : (i 0 : ℕ) < 3 := (i 0).isLt
  have h1 : (i 1 : ℕ) < 256 := (i 1).isLt
  have h2 : (i 2 : ℕ) < 2048 := (i 2).isLt
  refine ⟨⟨i 0, h0⟩, Rect.mem_set_unit.2 fun a => ?_⟩
  fin_cases a
  · exact ⟨le_refl _, Nat.lt_succ_self _⟩
  · exact ⟨Nat.zero_le _, by show (i 1 : ℕ) < 0 + 256; omega⟩
  · exact ⟨Nat.zero_le _, by show (i 2 : ℕ) < 0 + 2048; omega⟩
theorem rect2_disj (j j' : Fin 2) (h : j ≠ j') : Disjoint (rect2 j).set (rect2 j').set := by
  rw [Finset.disjoint_left]
  intro i hi hi'
  have h1 : j.val ≤ (i 0 : ℕ) ∧ (i 0 : ℕ) < j.val + 1 := Rect.mem_set_unit.1 hi 0
  have h2 : j'.val ≤ (i 0 : ℕ) ∧ (i 0 : ℕ) < j'.val + 1 := Rect.mem_set_unit.1 hi' 0
  exact h (Fin.ext (by omega))
theorem rect2_cover : Finset.univ.biUnion (fun j => (rect2 j).set) = Finset.univ := by
  ext i
  simp only [Finset.mem_biUnion, Finset.mem_univ, true_and, iff_true]
  have h0 : (i 0 : ℕ) < 2 := (i 0).isLt
  have h1 : (i 1 : ℕ) < 256 := (i 1).isLt
  have h2 : (i 2 : ℕ) < 2048 := (i 2).isLt
  refine ⟨⟨i 0, h0⟩, Rect.mem_set_unit.2 fun a => ?_⟩
  fin_cases a
  · exact ⟨le_refl _, Nat.lt_succ_self _⟩
  · exact ⟨Nat.zero_le _, by show (i 1 : ℕ) < 0 + 256; omega⟩
  · exact ⟨Nat.zero_le _, by show (i 2 : ℕ) < 0 + 2048; omega⟩

theorem three_split {ℓ : Loc nD τ sig} (I : Fin 3 → Finset (Idx ℓ)) (hd : ∀ j j', j ≠ j' → Disjoint (I j) (I j')) (hc : Finset.univ.biUnion I = Finset.univ) :
    iprop(∃ f : Buf (Elt F) ℓ, ℓ ↦{fullShare} f) ⊢ (iprop(slot ℓ (I 0) ∗ slot ℓ (I 1) ∗ slot ℓ (I 2)) : sProp 𝕄) := by
  iintro ⟨%f, H⟩
  ihave H' := (Entails.of_eq ((pointsTo_blocks I hd hc f).trans (bigSep_fin3 _))) $$ H
  icases H' with ⟨H0, H1, H2⟩
  unfold slot
  isplitl [H0]; · iexists f; iexact H0
  isplitl [H1]; · iexists f; iexact H1
  iexists f; iexact H2
theorem three_join {ℓ : Loc nD τ sig} (I : Fin 3 → Finset (Idx ℓ)) (hd : ∀ j j', j ≠ j' → Disjoint (I j) (I j')) (hc : Finset.univ.biUnion I = Finset.univ) :
    iprop(slot ℓ (I 0) ∗ slot ℓ (I 1) ∗ slot ℓ (I 2)) ⊢ (iprop(∃ f : Buf (Elt F) ℓ, ℓ ↦{fullShare} f) : sProp 𝕄) := by
  unfold slot
  iintro ⟨⟨%f, H0⟩, H1, H2⟩
  iapply (pointsTo_blocks_join_exists I hd hc f)
  iapply (Entails.of_eq (bigSep_fin3 (fun b => iprop(∃ f : Buf (Elt F) ℓ, ℓ ↦[I b]{fullShare} f))).symm)
  isplitl [H0]; · iexists f; iexact H0
  isplitl [H1] <;> iassumption
theorem two_split {ℓ : Loc nD τ sig} (I : Fin 2 → Finset (Idx ℓ)) (hd : ∀ j j', j ≠ j' → Disjoint (I j) (I j')) (hc : Finset.univ.biUnion I = Finset.univ) :
    iprop(∃ f : Buf (Elt F) ℓ, ℓ ↦{fullShare} f) ⊢ (iprop(slot ℓ (I 0) ∗ slot ℓ (I 1)) : sProp 𝕄) := by
  iintro ⟨%f, H⟩
  ihave H' := (Entails.of_eq ((pointsTo_blocks I hd hc f).trans (bigSep_fin2 _))) $$ H
  icases H' with ⟨H0, H1⟩
  unfold slot
  isplitl [H0]; · iexists f; iexact H0
  iexists f; iexact H1
theorem two_join {ℓ : Loc nD τ sig} (I : Fin 2 → Finset (Idx ℓ)) (hd : ∀ j j', j ≠ j' → Disjoint (I j) (I j')) (hc : Finset.univ.biUnion I = Finset.univ) :
    iprop(slot ℓ (I 0) ∗ slot ℓ (I 1)) ⊢ (iprop(∃ f : Buf (Elt F) ℓ, ℓ ↦{fullShare} f) : sProp 𝕄) := by
  unfold slot
  iintro ⟨⟨%f, H0⟩, H1⟩
  iapply (pointsTo_blocks_join_exists I hd hc f)
  iapply (Entails.of_eq (bigSep_fin2 (fun b => iprop(∃ f : Buf (Elt F) ℓ, ℓ ↦[I b]{fullShare} f))).symm)
  isplitl [H0]; · iexists f; iexact H0
  iexact H1

/-- A buffer whole, at some contents. -/
abbrev whole1 (d : Dev nD) (b : Ref sig .tc) : sProp 𝕄 := iprop(∃ f : Buf (Elt F) ((d : Thread nD τ).loc b), ((d : Thread nD τ).loc b) ↦{fullShare} f)

def sendB : Lane → Ref sig .tc
  | .q0 => cc0_scratch0
  | .q2 => cc0_scratch2
  | .q1 => cc0_scratch1
  | .q3 => cc0_scratch3
def recvB : Lane → Ref sig .tc
  | .q0 => cc0_scratch4
  | .q2 => cc0_scratch6
  | .q1 => cc0_scratch5
  | .q3 => cc0_scratch7
def stageB : Lane → Ref sig .tc
  | .q0 => cc0_scratch8
  | .q2 => cc0_scratch10
  | .q1 => cc0_scratch9
  | .q3 => cc0_scratch11

def sendI (d : Dev nD) : (L : Lane) → Fin 3 → Finset (Idx ((d : Thread nD τ).loc (sendB L)))
  | .q0 => fun j => (rect3 j).set
  | .q2 => fun j => (rect3 j).set
  | .q1 => fun j => (rect3 j).set
  | .q3 => fun j => (rect3 j).set
theorem sendI_disj (d : Dev nD) (L : Lane) (j j' : Fin 3) (h : j ≠ j') : Disjoint (sendI d L j) (sendI d L j') := by
  cases L <;> exact rect3_disj j j' h
theorem sendI_cover (d : Dev nD) (L : Lane) : Finset.univ.biUnion (sendI d L) = Finset.univ := by
  cases L <;> exact rect3_cover
theorem send_slot (d : Dev nD) (L : Lane) (j : Fin 3) : (own1 d (sendV L j) : sProp 𝕄) = slot ((d : Thread nD τ).loc (sendB L)) (sendI d L j) := by
  cases L <;> exact congrArg (slot _) ((View.set_reshape _ _).trans (View.set_slice_whole _ _))
theorem send_split (d : Dev nD) (L : Lane) : whole1 d (sendB L) ⊢ (iprop(own1 d (sendV L 0) ∗ own1 d (sendV L 1) ∗ own1 d (sendV L 2)) : sProp 𝕄) := by
  rw [send_slot, send_slot, send_slot]
  exact three_split (sendI d L) (sendI_disj d L) (sendI_cover d L)
theorem send_join (d : Dev nD) (L : Lane) : (iprop(own1 d (sendV L 0) ∗ own1 d (sendV L 1) ∗ own1 d (sendV L 2)) : sProp 𝕄) ⊢ whole1 d (sendB L) := by
  rw [send_slot, send_slot, send_slot]
  exact three_join (sendI d L) (sendI_disj d L) (sendI_cover d L)

def recvI (d : Dev nD) : (L : Lane) → Fin 3 → Finset (Idx ((d : Thread nD τ).loc (recvB L)))
  | .q0 => fun j => (rect3 j).set
  | .q2 => fun j => (rect3 j).set
  | .q1 => fun j => (rect3 j).set
  | .q3 => fun j => (rect3 j).set
theorem recvI_disj (d : Dev nD) (L : Lane) (j j' : Fin 3) (h : j ≠ j') : Disjoint (recvI d L j) (recvI d L j') := by
  cases L <;> exact rect3_disj j j' h
theorem recvI_cover (d : Dev nD) (L : Lane) : Finset.univ.biUnion (recvI d L) = Finset.univ := by
  cases L <;> exact rect3_cover
theorem recv_slot (d : Dev nD) (L : Lane) (j : Fin 3) : (own1 d (recvV L j) : sProp 𝕄) = slot ((d : Thread nD τ).loc (recvB L)) (recvI d L j) := by
  cases L <;> exact congrArg (slot _) ((View.set_reshape _ _).trans (View.set_slice_whole _ _))
theorem recv_split (d : Dev nD) (L : Lane) : whole1 d (recvB L) ⊢ (iprop(own1 d (recvV L 0) ∗ own1 d (recvV L 1) ∗ own1 d (recvV L 2)) : sProp 𝕄) := by
  rw [recv_slot, recv_slot, recv_slot]
  exact three_split (recvI d L) (recvI_disj d L) (recvI_cover d L)
theorem recv_join (d : Dev nD) (L : Lane) : (iprop(own1 d (recvV L 0) ∗ own1 d (recvV L 1) ∗ own1 d (recvV L 2)) : sProp 𝕄) ⊢ whole1 d (recvB L) := by
  rw [recv_slot, recv_slot, recv_slot]
  exact three_join (recvI d L) (recvI_disj d L) (recvI_cover d L)

def stageI (d : Dev nD) : (L : Lane) → Fin 2 → Finset (Idx ((d : Thread nD τ).loc (stageB L)))
  | .q0 => fun j => (rect2 j).set
  | .q2 => fun j => (rect2 j).set
  | .q1 => fun j => (rect2 j).set
  | .q3 => fun j => (rect2 j).set
theorem stageI_disj (d : Dev nD) (L : Lane) (j j' : Fin 2) (h : j ≠ j') : Disjoint (stageI d L j) (stageI d L j') := by
  cases L <;> exact rect2_disj j j' h
theorem stageI_cover (d : Dev nD) (L : Lane) : Finset.univ.biUnion (stageI d L) = Finset.univ := by
  cases L <;> exact rect2_cover
theorem stage_slot (d : Dev nD) (L : Lane) (j : Fin 2) : (own1 d (stageV L j) : sProp 𝕄) = slot ((d : Thread nD τ).loc (stageB L)) (stageI d L j) := by
  cases L <;> exact congrArg (slot _) ((View.set_reshape _ _).trans (View.set_slice_whole _ _))
theorem stage_split (d : Dev nD) (L : Lane) : whole1 d (stageB L) ⊢ (iprop(own1 d (stageV L 0) ∗ own1 d (stageV L 1)) : sProp 𝕄) := by
  rw [stage_slot, stage_slot]
  exact two_split (stageI d L) (stageI_disj d L) (stageI_cover d L)
theorem stage_join (d : Dev nD) (L : Lane) : (iprop(own1 d (stageV L 0) ∗ own1 d (stageV L 1)) : sProp 𝕄) ⊢ whole1 d (stageB L) := by
  rw [stage_slot, stage_slot]
  exact two_join (stageI d L) (stageI_disj d L) (stageI_cover d L)

/-- A lane's three scratch buffers. -/
def laneWhole (L : Lane) (d : Dev nD) : sProp 𝕄 := iprop(whole1 d (sendB L) ∗ whole1 d (recvB L) ∗ whole1 d (stageB L))

theorem lane_split (L : Lane) (d : Dev nD) : laneWhole L d ⊢ (laneBufs L d : sProp 𝕄) := by
  unfold laneWhole laneBufs
  iintro ⟨H1, H2, H3⟩
  isplitl [H1]; · iapply (send_split d L) $$ H1
  isplitl [H2]; · iapply (recv_split d L) $$ H2
  iapply (stage_split d L) $$ H3
theorem lane_join (L : Lane) (d : Dev nD) : (laneBufs L d : sProp 𝕄) ⊢ laneWhole L d := by
  unfold laneWhole laneBufs
  iintro ⟨H1, H2, H3⟩
  isplitl [H1]; · iapply (send_join d L) $$ H1
  isplitl [H2]; · iapply (recv_join d L) $$ H2
  iapply (stage_join d L) $$ H3

/-- The scratch buffers, lane by lane. -/
theorem scratch_lanes (d : Dev nD) :
    (Pipeline.scopedRest (Ix := ℕ) (Name := ℕ) (U := UU) (Lvl := ℕ) (Val := Elt F) cfg0.spec d : sProp 𝕄) ⊢ all fun L => laneWhole L d := by
  rw [scopedRest0_eq]
  unfold all laneWhole
  iintro ⟨H0, H1, H2, H3, H4, H5, H6, H7, H8, H9, H10, H11⟩
  isplitl [H0 H4 H8]
  · isplitl [H0]; · iexact H0
    isplitl [H4]; · iexact H4
    iexact H8
  isplitl [H2 H6 H10]
  · isplitl [H2]; · iexact H2
    isplitl [H6]; · iexact H6
    iexact H10
  isplitl [H1 H5 H9]
  · isplitl [H1]; · iexact H1
    isplitl [H5]; · iexact H5
    iexact H9
  isplitl [H3]; · iexact H3
  isplitl [H7]; · iexact H7
  iexact H11
theorem lanes_scratch (d : Dev nD) :
    (all fun L => laneWhole L d) ⊢ (Pipeline.scopedRest (Ix := ℕ) (Name := ℕ) (U := UU) (Lvl := ℕ) (Val := Elt F) cfg0.spec d : sProp 𝕄) := by
  rw [scopedRest0_eq]
  unfold all laneWhole
  iintro ⟨⟨H0, H4, H8⟩, ⟨H2, H6, H10⟩, ⟨H1, H5, H9⟩, H3, H7, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The chunks of the result -/

/-- The chunk of a lane's `n`-th flush. -/
def chunk (d : Dev nD) (p : Lane × Fin 16) : Finset S4096x8192.Idx :=
  (Rect.unit (s := S4096x8192) (oOff p.1 d p.2) S256x2048.size (oOff_inb p.1 d p.2)).set

theorem mem_chunk {d : Dev nD} {p : Lane × Fin 16} {i : S4096x8192.Idx} :
    i ∈ chunk d p ↔ (256 * upAt p.1 d (flAt p.2) ≤ (i 0 : ℕ) ∧ (i 0 : ℕ) < 256 * upAt p.1 d (flAt p.2) + 256)
      ∧ (col p.1 ≤ (i 1 : ℕ) ∧ (i 1 : ℕ) < col p.1 + 2048) := by
  unfold chunk
  rw [Rect.mem_set_unit]
  rw [oOff_eq]
  constructor
  · intro h; exact ⟨h 0, h 1⟩
  · rintro ⟨h0, h1⟩ a
    fin_cases a
    · exact h0
    · exact h1

theorem up_inj : ∀ (L : Lane) (d : Dev nD) (n n' : Fin 16), upAt L d (flAt n) = upAt L d (flAt n') → n = n' := by decide +kernel
theorem up_surj : ∀ (L : Lane) (d : Dev nD) (b : Fin 16), ∃ n : Fin 16, upAt L d (flAt n) = b.val := by decide +kernel

theorem chunk_disj (d : Dev nD) (p p' : Lane × Fin 16) (h : p ≠ p') : Disjoint (chunk d p) (chunk d p') := by
  rw [Finset.disjoint_left]
  intro i hi hi'
  rw [mem_chunk] at hi hi'
  obtain ⟨L, n⟩ := p
  obtain ⟨L', n'⟩ := p'
  have hL : L = L' := by
    have h1 := hi.2; have h2 := hi'.2
    cases L <;> cases L' <;> simp only [col] at h1 h2 <;> first | rfl | (exfalso; omega)
  subst hL
  exact h (congrArg (Prod.mk L) (up_inj L d n n' (by have h1 := hi.1; have h2 := hi'.1; dsimp only at h1 h2; omega)))

theorem chunk_cover (d : Dev nD) : Finset.univ.biUnion (chunk d) = Finset.univ := by
  ext i
  simp only [Finset.mem_biUnion, Finset.mem_univ, true_and, iff_true]
  have h0 : (i 0 : ℕ) < 4096 := (i 0).isLt
  have h1 : (i 1 : ℕ) < 8192 := (i 1).isLt
  have hL : ∃ L, col L ≤ (i 1 : ℕ) ∧ (i 1 : ℕ) < col L + 2048 := by
    by_cases a : (i 1 : ℕ) < 2048
    · exact ⟨.q0, by simp only [col]; omega⟩
    by_cases b : (i 1 : ℕ) < 4096
    · exact ⟨.q1, by simp only [col]; omega⟩
    by_cases c : (i 1 : ℕ) < 6144
    · exact ⟨.q2, by simp only [col]; omega⟩
    exact ⟨.q3, by simp only [col]; omega⟩
  obtain ⟨L, hL⟩ := hL
  obtain ⟨n, hn⟩ := up_surj L d ⟨(i 0 : ℕ) / 256, by omega⟩
  refine ⟨(L, n), mem_chunk.2 ⟨?_, hL⟩⟩
  dsimp only at hn ⊢
  rw [hn]; omega

theorem set_out (L : Lane) (d : Dev nD) (n : Fin 16) : (outV L d n).view.set = chunk d (L, n) := View.set_slice_whole _ _

theorem bigSep_fin (n : ℕ) (S : ℕ → sProp 𝕄) : bigSep (Finset.range n) S = bigSep Finset.univ fun i : Fin n => S i := by
  have e : Finset.range n = (Finset.univ : Finset (Fin n)).map Fin.valEmbedding := by
    ext i; simp only [Finset.mem_range, Finset.mem_map, Finset.mem_univ, true_and, Fin.valEmbedding_apply]
    exact ⟨fun h => ⟨⟨i, h⟩, rfl⟩, fun ⟨j, hj⟩ => hj ▸ j.isLt⟩
  rw [e, bigSep_map]; rfl

def outL (d : Dev nD) : Loc nD τ sig := (d : Thread nD τ).loc main_v1
def chunkI (d : Dev nD) (p : Lane × Fin 16) : Finset (Idx (outL d)) := chunk d p
theorem own_out (d : Dev nD) (p : Lane × Fin 16) : (own1 d (outV p.1 d p.2) : sProp 𝕄) = slot (outL d) (chunkI d p) :=
  congrArg (slot (outL d)) (set_out p.1 d p.2)

theorem out_lanes (S : Lane → ℕ → sProp 𝕄) :
    bigSep Finset.univ (fun p : Lane × Fin 16 => S p.1 p.2) = all fun L => bigSep (Finset.range 16) (S L) := by
  have h : (fun L => bigSep (Finset.range 16) (S L)) = fun L => bigSep Finset.univ fun n : Fin 16 => S L n := funext fun L => bigSep_fin 16 (S L)
  rw [h, ← bigSep_lane, bigSep_univ_prod]

theorem slot_intro {ℓ : Loc nD τ sig} (I : Finset (Idx ℓ)) (f : Buf (Elt F) ℓ) : (ℓ ↦[I]{fullShare} f : sProp 𝕄) ⊢ slot ℓ I := by
  unfold slot
  iintro H; iexists f; iexact H

theorem out_split (d : Dev nD) (f : Buf (Elt F) (outL d)) :
    (outL d ↦{fullShare} f : sProp 𝕄) ⊢ all fun L => bigSep (Finset.range 16) fun n => own1 d (outV L d n) := by
  rw [← out_lanes (fun L n => own1 d (outV L d n)), pointsTo_blocks (chunkI d) (chunk_disj d) (chunk_cover d) f]
  exact bigSep_mono fun p _ => (slot_intro (chunkI d p) f).trans (Entails.of_eq (own_out d p).symm)

/-- A chunk holds what its flush wrote. -/
def readsAt (d : Dev nD) (p : Lane × Fin 16) (f : Buf (Elt F) (outL d)) : Prop := (outV p.1 d p.2).view.read (Elt F) f = outv X Wt p.1 d p.2
def heldAt (d : Dev nD) (p : Lane × Fin 16) (f : Buf (Elt F) (outL d)) : sProp 𝕄 := outL d ↦[chunkI d p]{fullShare} f
def chunkAt (d : Dev nD) (p : Lane × Fin 16) (f : Buf (Elt F) (outL d)) : sProp 𝕄 := iprop(⌜readsAt X Wt d p f⌝ ∗ heldAt d p f)

theorem out_chunk (d : Dev nD) (p : Lane × Fin 16) : outDone X Wt p.1 d p.2 ⊢ iprop(∃ f : Buf (Elt F) (outL d), chunkAt X Wt d p f) := by
  unfold outDone ownV chunkAt readsAt heldAt
  iintro ⟨%f, %hf, H⟩
  iexists f
  isplitr; · ipureintro; exact hf
  ihave H' := (Entails.of_eq (congrArg (fun I : Finset (Idx (outL d)) => (outL d ↦[I]{fullShare} f : sProp 𝕄)) (set_out p.1 d p.2))) $$ [H]
  · iexact H
  iexact H'

theorem out_join (d : Dev nD) (f₀ : Buf (Elt F) (outL d)) :
    (all fun L => bigSep (Finset.range 16) (outDone X Wt L d))
      ⊢ iprop(∃ g : Buf (Elt F) (outL d), ⌜∀ (L : Lane) (n : Fin 16), readsAt X Wt d (L, n) g⌝ ∗ outL d ↦{fullShare} g) := by
  have : Nonempty (Buf (Elt F) (outL d)) := ⟨f₀⟩
  have h : (bigSep Finset.univ fun p : Lane × Fin 16 => (outDone X Wt p.1 d p.2 : sProp 𝕄))
      ⊢ iprop(∃ fs : Lane × Fin 16 → Buf (Elt F) (outL d), bigSep Finset.univ fun p => chunkAt X Wt d p (fs p)) :=
    (bigSep_mono (s := Finset.univ) fun p _ => out_chunk X Wt d p).trans (bigSep_exists_pi Finset.univ (chunkAt X Wt d))
  unfold chunkAt at h
  iintro H
  ihave H' := (Entails.of_eq (out_lanes (fun L n => (outDone X Wt L d n : sProp 𝕄))).symm) $$ H
  ihave H := h $$ H'
  icases H with ⟨%fs, H⟩
  ihave H' := (bigSep_pure_sep Finset.univ (fun p => readsAt X Wt d p (fs p)) (fun p => heldAt d p (fs p))) $$ H
  icases H' with ⟨%hr, H⟩
  unfold heldAt
  ihave H' := (pointsTo_biUnion_join Finset.univ (chunkI d) fs f₀ (fun b _ b' _ h => chunk_disj d b b' h)) $$ H
  icases H' with ⟨%g, %hg, H⟩
  iexists g
  isplitr
  · ipureintro
    intro L n
    have h0 : (outV L d n).view.read (Elt F) (fs (L, n)) = outv X Wt L d n := hr (L, n) (Finset.mem_univ _)
    have h1 : ∀ i ∈ chunk d (L, n), g i = fs (L, n) i := hg (L, n) (Finset.mem_univ _)
    rw [← set_out L d n] at h1
    exact (View.read_congr h1).trans h0
  ihave H' := (Entails.of_eq (congrArg (fun I : Finset (Idx (outL d)) => (outL d ↦[I]{fullShare} g : sProp 𝕄)) (chunk_cover d))) $$ [H]
  · iexact H
  iexact H'

end Cert.Ring
-- ==== Proof.Deal.lean ====
/-
  What the launch mints, dealt to the devices that spend it.
-/
module

public import proofs.«01_k».proof.Proof.Buffers

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## The duty tokens -/

def sendTok (h : ℕ) : sProp 𝕄 := dutyTok ER (cell d (kSend L (sl3 h))) (h / 3) 0
def recvTok (h : ℕ) : sProp 𝕄 := dutyTok ER (cell d (kRecv L (sl3 h))) (h / 3) 0
def copyTok (n : ℕ) : sProp 𝕄 := dutyTok ER (cell d (kCopy L (sl2 n))) (n / 2) 0
def crTok (i : ℕ) : sProp 𝕄 := dutyTok ER (cell d (kCred L)) 0 i
def wrTok (h : ℕ) : sProp 𝕄 := writeTok EL (d, L, sl3 h) (h / 3 + 1)

/-- The tokens of a device's own cells of a lane, of its barrier cell. -/
def laneMint : sProp 𝕄 :=
  iprop(bigSep (Finset.range 30) (sendTok L d) ∗ bigSep (Finset.range 30) (recvTok L d) ∗ bigSep (Finset.range 16) (copyTok L d)
    ∗ bigSep (Finset.range 27) (crTok L d))
def barMint : sProp 𝕄 := iprop(dutyTok ER (cell d kBar) 0 0 ∗ dutyTok ER (cell d kBar) 0 1)

/-- The duties, counted. -/
abbrev LaneDuty : Type := Fin 30 ⊕ Fin 30 ⊕ Fin 16 ⊕ Fin 27
abbrev Duty : Type := Dev nD × ((Lane × LaneDuty) ⊕ Fin 2)

def laneDuty (L : Lane) : LaneDuty → CK × ℕ × ℕ
  | .inl h => (kSend L (sl3 h), h / 3, 0)
  | .inr (.inl h) => (kRecv L (sl3 h), h / 3, 0)
  | .inr (.inr (.inl n)) => (kCopy L (sl2 n), n / 2, 0)
  | .inr (.inr (.inr i)) => (kCred L, 0, i)
def dutyOf : (Lane × LaneDuty) ⊕ Fin 2 → CK × ℕ × ℕ
  | .inl p => laneDuty p.1 p.2
  | .inr t => (kBar, 0, t)
def tokOf (x : Duty) : GSem nD τ sig × ℕ × ℕ := (cell x.1 (dutyOf x.2).1, (dutyOf x.2).2)

theorem sl3_fin {h h' : Fin 30} (e : sl3 h = sl3 h') (e' : h.val / 3 = h'.val / 3) : h = h' := by
  have e1 : h.val % 3 = h'.val % 3 := congrArg Fin.val e
  exact Fin.ext (by omega)
theorem sl2_fin {h h' : Fin 16} (e : sl2 h = sl2 h') (e' : h.val / 2 = h'.val / 2) : h = h' := by
  have e1 : h.val % 2 = h'.val % 2 := congrArg Fin.val e
  exact Fin.ext (by omega)

theorem dutyOf_inj : Function.Injective dutyOf := by
  rintro (⟨L, h | h | h | h⟩ | t) (⟨L', h' | h' | h' | h'⟩ | t') e <;>
    simp only [dutyOf, laneDuty, Prod.mk.injEq, Sum.inl.injEq, Sum.inr.injEq, reduceCtorEq, false_and] at e
  · obtain ⟨⟨rfl, e1⟩, e2, -⟩ := e; rw [sl3_fin e1 e2]
  · obtain ⟨⟨rfl, e1⟩, e2, -⟩ := e; rw [sl3_fin e1 e2]
  · obtain ⟨⟨rfl, e1⟩, e2, -⟩ := e; rw [sl2_fin e1 e2]
  · obtain ⟨rfl, -, e2⟩ := e; rw [Fin.ext e2]
  · rw [Fin.ext e.2.2]

theorem tokOf_inj : Function.Injective tokOf := by
  rintro ⟨c, x⟩ ⟨c', x'⟩ h
  have h1 : c = c' := congrArg (fun y : GSem nD τ sig × ℕ × ℕ => y.1.1.1) h
  subst h1
  have h2 : (dutyOf x).1 = (dutyOf x').1 := csem_inj (congrArg (fun y : GSem nD τ sig × ℕ × ℕ => y.1.2) h)
  have h3 : (dutyOf x).2 = (dutyOf x').2 := congrArg (fun y : GSem nD τ sig × ℕ × ℕ => y.2) h
  exact congrArg (Prod.mk c) (dutyOf_inj (Prod.ext h2 h3))

theorem cell_inj : Function.Injective (fun p : Dev nD × CK => (cell p.1 p.2 : GSem nD τ sig)) := by
  rintro ⟨c, x⟩ ⟨c', x'⟩ h
  have h1 : c = c' := congrArg (fun y : GSem nD τ sig => y.1.1) h
  subst h1
  exact congrArg (Prod.mk c) (csem_inj (congrArg Prod.snd h))

def ringCells : Finset (GSem nD τ sig) := Finset.univ.map ⟨fun p : Dev nD × CK => cell p.1 p.2, cell_inj⟩
def ringToks : Finset (GSem nD τ sig × ℕ × ℕ) := Finset.univ.map ⟨tokOf, tokOf_inj⟩

theorem bigSep_cells (Φ : GSem nD τ sig → sProp 𝕄) :
    bigSep ringCells Φ = bigSep Finset.univ fun c : Dev nD => bigSep Finset.univ fun k : CK => Φ (cell c k) := by
  unfold ringCells; rw [bigSep_map, bigSep_univ_prod]; rfl

theorem bigSep_toks :
    bigSep ringToks (fun x => (dutyTok ER x.1 x.2.1 x.2.2 : sProp 𝕄))
      = bigSep Finset.univ fun c : Dev nD => iprop((bigSep Finset.univ fun L : Lane => laneMint L c) ∗ barMint c) := by
  unfold ringToks; rw [bigSep_map, bigSep_univ_prod]
  refine bigSep_congr fun c _ => ?_
  rw [bigSep_univ_sum, bigSep_univ_prod, bigSep_fin2]
  have e (L : Lane) : laneMint L c = (bigSep Finset.univ fun x : LaneDuty => dutyTok ER (cell c (laneDuty L x).1) (laneDuty L x).2.1 (laneDuty L x).2.2 : sProp 𝕄) := by
    unfold laneMint
    rw [bigSep_fin, bigSep_fin, bigSep_fin, bigSep_fin, bigSep_univ_sum, bigSep_univ_sum, bigSep_univ_sum]; rfl
  rw [bigSep_congr (s := Finset.univ) fun L _ => e L]; rfl

/-! ## Dealing -/

def laneTok : sProp 𝕄 :=
  iprop(bigSep (Finset.Ico 0 30) (hopTok L d) ∗ bigSep (Finset.Ico 0 27) (credTok L d) ∗ bigSep (Finset.range 16) (copyTok L d))
def barTok : sProp 𝕄 := iprop(dutyTok ER (cell (leftD d) kBar) 0 1 ∗ dutyTok ER (cell (rightD d) kBar) 0 0)

def dstE (L : Lane) : Dev nD ≃ Dev nD := ⟨dst L, src L, src_dst L, dst_src L⟩
def rightE : Dev nD ≃ Dev nD := ⟨rightD, leftD, left_right, right_left⟩

theorem laneTok_eq : laneTok L d = (iprop((bigSep (Finset.range 30) (sendTok L d) ∗ bigSep (Finset.range 30) (recvTok L (dst L d)) ∗ bigSep (Finset.range 30) (wrTok L (dst L d)))
    ∗ bigSep (Finset.range 27) (crTok L (src L d)) ∗ bigSep (Finset.range 16) (copyTok L d)) : sProp 𝕄) := by
  unfold laneTok
  rw [← Finset.range_eq_Ico, ← Finset.range_eq_Ico, ← bigSep_sep', ← bigSep_sep']; rfl

/-- Something of every device's lane, dealt to the device the lane's ring leads to. -/
theorem deal (e : Lane → Dev nD ≃ Dev nD) (T : Lane → Dev nD → sProp 𝕄) :
    (bigSep Finset.univ fun d : Dev nD => bigSep Finset.univ fun L : Lane => T L d)
      = bigSep Finset.univ fun d : Dev nD => bigSep Finset.univ fun L : Lane => T L (e L d) := by
  rw [bigSep_univ_comm, bigSep_univ_comm (fun (d : Dev nD) (L : Lane) => T L (e L d))]
  exact bigSep_congr fun L _ => bigSep_univ_equiv (e L) (T L)

theorem deal_lanes :
    iprop((bigSep Finset.univ fun d : Dev nD => bigSep Finset.univ fun L : Lane => laneMint L d)
        ∗ bigSep Finset.univ fun d : Dev nD => bigSep Finset.univ fun L : Lane => bigSep (Finset.range 30) (wrTok L d))
      ⊢ (bigSep Finset.univ fun d : Dev nD => bigSep Finset.univ fun L : Lane => laneTok L d : sProp 𝕄) := by
  simp only [laneTok_eq, laneMint, bigSep_sep']
  rw [deal dstE (fun L d => bigSep (Finset.range 30) (recvTok L d)), deal dstE (fun L d => bigSep (Finset.range 30) (wrTok L d)),
    deal (fun L => (dstE L).symm) (fun L d => bigSep (Finset.range 27) (crTok L d))]
  iintro ⟨⟨H1, H2, H3, H4⟩, H5⟩
  isplitl [H1 H2 H5]
  · isplitl [H1]; · iexact H1
    isplitl [H2]; · iexact H2
    iexact H5
  isplitl [H4]; · iexact H4
  iexact H3

theorem deal_bar : (bigSep Finset.univ fun d : Dev nD => barMint d) ⊢ (bigSep Finset.univ fun d : Dev nD => barTok d : sProp 𝕄) := by
  unfold barMint barTok
  rw [bigSep_sep', bigSep_sep', bigSep_univ_equiv rightE (fun d : Dev nD => (dutyTok ER (cell d kBar) 0 0 : sProp 𝕄)),
    bigSep_univ_equiv rightE.symm (fun d : Dev nD => (dutyTok ER (cell d kBar) 0 1 : sProp 𝕄))]
  iintro ⟨H1, H2⟩
  isplitl [H2]; · iexact H2
  iexact H1

/-! ## The slots' tokens -/

def readers : sProp 𝕄 := iprop(readerAt EL (d, L, (0 : Fin 3)) 0 ∗ readerAt EL (d, L, (1 : Fin 3)) 0 ∗ readerAt EL (d, L, (2 : Fin 3)) 0)

theorem bigSep_key (Φ : Key → sProp 𝕄) :
    bigSep Finset.univ Φ = bigSep Finset.univ fun d : Dev nD => bigSep Finset.univ fun L : Lane => bigSep Finset.univ fun j : Fin 3 => Φ (d, L, j) := by
  rw [bigSep_univ_prod]; exact bigSep_congr fun d _ => bigSep_univ_prod _

theorem bigSep_readers :
    bigSep Finset.univ (fun k : Key => readerAt EL k 0) = (bigSep Finset.univ fun d : Dev nD => bigSep Finset.univ fun L : Lane => readers L d : sProp 𝕄) := by
  rw [bigSep_key]
  exact bigSep_congr fun d _ => bigSep_congr fun L _ => bigSep_fin3 _

theorem bigSep_writes :
    bigSep ((Finset.univ : Finset Key) ×ˢ Finset.range 10) (fun x => writeTok EL x.1 (x.2 + 1))
      = (bigSep Finset.univ fun d : Dev nD => bigSep Finset.univ fun L : Lane => bigSep (Finset.range 30) (wrTok L d) : sProp 𝕄) := by
  have e : (Finset.univ : Finset Key) ×ˢ Finset.range 10 = (Finset.univ : Finset (Key × Fin 10)).map ((Function.Embedding.refl Key).prodMap Fin.valEmbedding) := by
    ext x
    rw [Finset.mem_product, Finset.mem_map]
    exact ⟨fun h => ⟨(x.1, ⟨x.2, Finset.mem_range.1 h.2⟩), Finset.mem_univ _, rfl⟩,
      fun ⟨y, _, hy⟩ => ⟨Finset.mem_univ _, Finset.mem_range.2 (hy ▸ y.2.isLt)⟩⟩
  rw [e, bigSep_map, bigSep_univ_prod, bigSep_key]
  refine bigSep_congr fun d _ => bigSep_congr fun L _ => ?_
  rw [bigSep_fin]
  refine Eq.trans ?_ (bigSep_univ_equiv (finProdFinEquiv : Fin 10 × Fin 3 ≃ Fin (10 * 3)) (fun h : Fin 30 => wrTok L d h)).symm
  rw [bigSep_univ_prod, bigSep_univ_comm]
  refine bigSep_congr fun t _ => bigSep_congr fun j _ => ?_
  have hj := j.isLt
  have e1 : ((finProdFinEquiv (t, j) : Fin 30) : ℕ) = j.val + 3 * t.val := rfl
  have e2 : sl3 (j.val + 3 * t.val) = j := Fin.ext (by show (j.val + 3 * t.val) % 3 = j.val; omega)
  have e3 : (j.val + 3 * t.val) / 3 = t.val := by omega
  unfold wrTok
  rw [e1, e2, e3]
  rfl

end Cert.Ring
-- ==== Proof.Start.lean ====
/-
  The launch: the cells allocated, the tokens dealt, the credits, and what each device starts from.
-/
module

public import proofs.«01_k».proof.Proof.Deal

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## What a lane starts from -/

/-- The credits a lane spends. -/
def laneCreds : sProp 𝕄 := iprop(bigSep (Finset.Ico 0 30) (inCred L d) ∗ bigSep (Finset.Ico 0 27) (crCred L d))
/-- The positions of a lane's cells. -/
def lanePos : sProp 𝕄 := laneOf (fun k => atPos ER (cell d k) 0 ∅ 0) L

theorem pos_hop (j : Fin 3) (h : ℕ) (e : sl3 h = j) (h0 : h / 3 = 0) :
    iprop(Ctx X Wt K κ ∗ atPos ER (cell d (kSend L j)) 0 ∅ 0 ∗ atPos ER (cell d (kRecv L j)) 0 ∅ 0) ⊢ (hpos L d h : sProp 𝕄) := by
  subst e
  unfold hpos
  rw [h0]
  iintro ⟨#HC, H1, H2⟩
  isplitl [H1]; · iexact H1
  isplitr; · iapply (Ctx_reached X Wt K κ d _) $$ HC
  isplitl [H2]; · iexact H2
  iapply (Ctx_reached X Wt K κ d _) $$ HC

theorem pos_idle (j : Fin 2) (n : ℕ) (e : sl2 n = j) (h0 : n / 2 = 0) :
    iprop(Ctx X Wt K κ ∗ atPos ER (cell d (kCopy L j)) 0 ∅ 0 ∗ own1 d (stageV L j)) ⊢ (idle L d n : sProp 𝕄) := by
  subst e
  unfold idle fpos
  rw [h0]
  iintro ⟨#HC, H1, H2⟩
  isplitl [H1]
  · isplitl [H1]; · iexact H1
    iapply (Ctx_reached X Wt K κ d _) $$ HC
  iexact H2

theorem credFacts_none (e : Dev nD) : (iprop(emp) : sProp 𝕄) ⊢ credFacts L e 0 := by
  unfold credFacts; rw [Finset.range_zero, bigSep_empty]; exact .rfl

theorem pre_of :
    iprop(Ctx X Wt K κ ∗ lanePos L d ∗ laneTok L d ∗ laneCreds L d
        ∗ (own1 d (sendV L 0) ∗ own1 d (sendV L 1) ∗ own1 d (sendV L 2)) ∗ (own1 d (stageV L 0) ∗ own1 d (stageV L 1))
        ∗ bigSep (Finset.range 16) fun n => own1 d (outV L d n))
      ⊢ preSt X Wt L d := by
  unfold lanePos laneOf laneTok laneCreds preSt
  iintro ⟨#HC, ⟨⟨Hs0, Hs1, Hs2⟩, ⟨Hr0, Hr1, Hr2⟩, ⟨Hc0, Hc1⟩, Hcr⟩, ⟨Hh, Hct, Hft⟩, ⟨Hin, Hcc⟩, Hsend, ⟨Hg0, Hg1⟩, Hout⟩
  isplitl [Hs0 Hs1 Hs2 Hr0 Hr1 Hr2]
  · isplitl [Hs0 Hr0]
    · iapply (pos_hop X Wt K κ L d 0 0 rfl rfl)
      isplitr; · iexact HC
      isplitl [Hs0] <;> iassumption
    isplitl [Hs1 Hr1]
    · iapply (pos_hop X Wt K κ L d 1 1 rfl rfl)
      isplitr; · iexact HC
      isplitl [Hs1] <;> iassumption
    iapply (pos_hop X Wt K κ L d 2 2 rfl rfl)
    isplitr; · iexact HC
    isplitl [Hs2] <;> iassumption
  isplitl [Hin]; · iexact Hin
  isplitl [Hh]; · iexact Hh
  isplitl [Hcc]; · iexact Hcc
  isplitl [Hcr]
  · unfold credSt
    iexists ∅
    isplitr; · ipureintro; exact ⟨Finset.empty_subset _, Nat.zero_le _⟩
    isplitl [Hcr]; · iexact Hcr
    rw [bigSep_empty]; iempintro
  isplitl [Hct]
  · unfold crSt
    isplitl [Hct]; · iexact Hct
    iapply (credFacts_none L d); iempintro
  isplitl [Hsend]; · unfold sends; iexact Hsend
  unfold flSt
  isplitl [Hft Hout]
  · rw [← Finset.range_eq_Ico]
    have e : (bigSep (Finset.range 16) (flTok L d) : sProp 𝕄) = iprop(bigSep (Finset.range 16) (copyTok L d) ∗ bigSep (Finset.range 16) fun n => own1 d (outV L d n)) := by
      rw [← bigSep_sep']; rfl
    rw [e]
    isplitl [Hft] <;> iassumption
  isplitr; · rw [Nat.zero_sub, Finset.range_zero, bigSep_empty]; iempintro
  unfold flMid
  isplitl [Hc0 Hg0]
  · iapply (pos_idle X Wt K κ L d 0 0 rfl rfl)
    isplitr; · iexact HC
    isplitl [Hc0] <;> iassumption
  iapply (pos_idle X Wt K κ L d 1 1 rfl rfl)
  isplitr; · iexact HC
  isplitl [Hc1] <;> iassumption

/-! ## The launch's credits -/

theorem creds_H : (Pipeline.launchCred (fun c : Dev nD => owH L c 0) d : sProp 𝕄) ⊢ bigSep (Finset.Ico 0 30) (inCred L d) := by
  unfold owH
  rw [Pipeline.launchCred_sum]
  exact bigSep_mono fun i _ => Pipeline.launchCred_tallyAt _ (dst L) (src L) (dst_src L) (src_dst L) i N d
theorem creds_C : (Pipeline.launchCred (fun c : Dev nD => owC L c 0) d : sProp 𝕄) ⊢ bigSep (Finset.Ico 0 27) (crCred L d) := by
  unfold owC
  rw [Pipeline.launchCred_sum]
  exact bigSep_mono fun i _ => Pipeline.launchCred_tallyAt _ (src L) (dst L) (src_dst L) (dst_src L) i 1 d
theorem creds_L : (Pipeline.launchCred (fun c : Dev nD => owL L c 0 0) d : sProp 𝕄) ⊢ laneCreds L d := by
  unfold owL laneCreds
  rw [Pipeline.launchCred_add]
  iintro ⟨H1, H2⟩
  isplitl [H2]; · iapply (creds_H L d) $$ H2
  iapply (creds_C L d) $$ H1

theorem creds : (Pipeline.launchCred (O₀) d : sProp 𝕄) ⊢ iprop((all fun L => laneCreds L d) ∗ cred (tallyAt (cell d kBar) 0 2)) := by
  have e : (O₀ : Dev nD → CellTallies nD τ sig ℕ) = fun c => (((owL .q0 c 0 0 + owL .q2 c 0 0) + owL .q1 c 0 0) + owL .q3 c 0 0)
      + tallyAt (cell (rightD c) kBar) 0 1 + tallyAt (cell (leftD c) kBar) 0 1 := rfl
  rw [e, Pipeline.launchCred_add, Pipeline.launchCred_add, Pipeline.launchCred_add, Pipeline.launchCred_add, Pipeline.launchCred_add]
  unfold all
  iintro ⟨⟨⟨⟨⟨H0, H2⟩, H1⟩, H3⟩, Hr⟩, Hl⟩
  isplitl [H0 H1 H2 H3]
  · isplitl [H0]; · iapply (creds_L .q0 d) $$ H0
    isplitl [H2]; · iapply (creds_L .q2 d) $$ H2
    isplitl [H1]; · iapply (creds_L .q1 d) $$ H1
    iapply (creds_L .q3 d) $$ H3
  ihave Hr := (Pipeline.launchCred_tallyAt (csem kBar) rightD leftD right_left left_right 0 1 d) $$ Hr
  ihave Hl := (Pipeline.launchCred_tallyAt (csem kBar) leftD rightD left_right right_left 0 1 d) $$ Hl
  have e2 : (tallyAt (cell d kBar) 0 2 : CellTallies nD τ sig ℕ) = tallyAt (cell d kBar) 0 1 + tallyAt (cell d kBar) 0 1 := (tallyAt_add _ _ 1 1).symm
  rw [e2]
  iapply (cred_add _ _).2
  isplitl [Hr] <;> iassumption

/-! ## The cells and the slots, allocated -/

/-- The receive slots' invariants, under some names. -/
def slotsKnown : sProp 𝕄 := iprop(∃ κ : Key → ℕ, bigSep Finset.univ fun k : Key => slotInv EL (κ k) k (own1 k.1 (recvV k.2.1 k.2.2)))

instance slotsKnown_persistent : BI.Persistent (slotsKnown : sProp 𝕄) := by unfold slotsKnown; infer_instance

/-- What is a device's own. -/
def linear : sProp 𝕄 :=
  iprop((bigSep Finset.univ fun L : Lane => lanePos L d) ∗ atPos ER (cell d kBar) 0 ∅ 0
    ∗ (bigSep Finset.univ fun L : Lane => laneTok L d) ∗ barTok d ∗ bigSep Finset.univ fun L : Lane => readers L d)

/-- What the launch deals a device. -/
def G : sProp 𝕄 :=
  iprop((bigSep Finset.univ fun k : CK => roundState ER (Rd X Wt) (cell d k) 0) ∗ (bigSep Finset.univ fun k : CK => reached ER (cell d k) 0)
    ∗ linear d ∗ slotsKnown)

theorem fund_cells :
    BI.own (ER (initOf ringCells ringToks)) ⊢ (|==> ((bigSep Finset.univ fun c : Dev nD => bigSep Finset.univ fun k : CK => roundState ER (Rd X Wt) (cell c k) 0)
      ∗ (bigSep Finset.univ fun c : Dev nD => bigSep Finset.univ fun k : CK => reached ER (cell c k) 0)
      ∗ (bigSep Finset.univ fun c : Dev nD => bigSep Finset.univ fun k : CK => atPos ER (cell c k) 0 ∅ 0)
      ∗ bigSep Finset.univ fun c : Dev nD => iprop((bigSep Finset.univ fun L : Lane => laneMint L c) ∗ barMint c)) : sProp 𝕄) := by
  iintro HX
  imod (Rounds.fund ER (Rd X Wt) ringCells ringToks) $$ HX with ⟨Hst, Hr, Hat, Htok⟩
  imodintro
  isplitl [Hst]; · iapply (Entails.of_eq (bigSep_cells fun g => roundState ER (Rd X Wt) g 0)) $$ Hst
  isplitl [Hr]; · iapply (Entails.of_eq (bigSep_cells fun g => (reached ER g 0 : sProp 𝕄))) $$ Hr
  isplitl [Hat]; · iapply (Entails.of_eq (bigSep_cells fun g => (atPos ER g 0 ∅ 0 : sProp 𝕄))) $$ Hat
  iapply (Entails.of_eq (bigSep_toks (F := F))) $$ Htok

theorem fund_slots :
    BI.own (EL (initSlots Finset.univ 10)) ⊢ (|={Set.univ}=> (slotsKnown
      ∗ (bigSep Finset.univ fun d : Dev nD => bigSep Finset.univ fun L : Lane => readers L d)
      ∗ bigSep Finset.univ fun d : Dev nD => bigSep Finset.univ fun L : Lane => bigSep (Finset.range 30) (wrTok L d)) : sProp 𝕄) := by
  iintro H
  imod (slots_init EL (Finset.univ : Finset Key) 10 (fun k : Key => (own1 k.1 (recvV k.2.1 k.2.2) : sProp 𝕄))) $$ H with ⟨%κ, -, Hi, Hr, Hw⟩
  imodintro
  isplitl [Hi]; · unfold slotsKnown; iexists κ; iexact Hi
  isplitl [Hr]; · iapply (Entails.of_eq (bigSep_readers (F := F))) $$ Hr
  iapply (Entails.of_eq (bigSep_writes (F := F))) $$ Hw

theorem linear_intro :
    iprop((bigSep Finset.univ fun c : Dev nD => bigSep Finset.univ fun k : CK => atPos ER (cell c k) 0 ∅ 0)
      ∗ (bigSep Finset.univ fun c : Dev nD => iprop((bigSep Finset.univ fun L : Lane => laneMint L c) ∗ barMint c))
      ∗ (bigSep Finset.univ fun d : Dev nD => bigSep Finset.univ fun L : Lane => readers L d)
      ∗ bigSep Finset.univ fun d : Dev nD => bigSep Finset.univ fun L : Lane => bigSep (Finset.range 30) (wrTok L d))
      ⊢ (bigSep Finset.univ fun c : Dev nD => linear c : sProp 𝕄) := by
  have e : (bigSep Finset.univ fun c : Dev nD => bigSep Finset.univ fun k : CK => (atPos ER (cell c k) 0 ∅ 0 : sProp 𝕄))
      = bigSep Finset.univ fun c : Dev nD => iprop((bigSep Finset.univ fun L : Lane => lanePos L c) ∗ atPos ER (cell c kBar) 0 ∅ 0) :=
    bigSep_congr fun c _ => bigSep_CK _
  unfold linear
  rw [e]
  simp only [bigSep_sep']
  iintro ⟨⟨Hp, Hb⟩, ⟨Hm, Hbm⟩, Hr, Hw⟩
  ihave Ht := (deal_lanes (F := F)) $$ [Hm Hw]
  · isplitl [Hm] <;> iassumption
  ihave Hbt := (deal_bar (F := F)) $$ Hbm
  isplitl [Hp]; · iexact Hp
  isplitl [Hb]; · iexact Hb
  isplitl [Ht]; · iexact Ht
  isplitl [Hbt]; · iexact Hbt
  iexact Hr

theorem fund_all :
    iprop(BI.own (ER (initOf ringCells ringToks)) ∗ BI.own (EL (initSlots Finset.univ 10)))
      ⊢ (|={Set.univ}=> bigSep Finset.univ (G X Wt) : sProp 𝕄) := by
  iintro ⟨H1, H2⟩
  imod (fund_cells X Wt) $$ H1 with ⟨Hst, Hr, Hat, Htok⟩
  imod (fund_slots (F := F)) $$ H2 with ⟨#Hk, Hrd, Hw⟩
  imodintro
  ihave Hl := (linear_intro (F := F)) $$ [Hat Htok Hrd Hw]
  · isplitl [Hat]; · iexact Hat
    isplitl [Htok]; · iexact Htok
    isplitl [Hrd] <;> iassumption
  unfold G
  simp only [bigSep_sep']
  isplitl [Hst]; · iexact Hst
  isplitl [Hr]; · iexact Hr
  isplitl [Hl]; · iexact Hl
  iapply (BI.bigSep_of_persistent (Finset.univ : Finset (Dev nD)) (slotsKnown : sProp 𝕄)) $$ Hk

/-! ## The semaphores -/

/-- The kernel's own semaphores. -/
abbrev osem (o : OK) : SemLoc sig := csem (ofOK o)

theorem ownSemFacts : Pipeline.OwnSemFacts cfg0.spec osem := by decide +kernel

theorem ownSems0_eq :
    (Pipeline.ownSems0 (Ix := ℕ) (Name := ℕ) (U := UU) (Lvl := ℕ) (Val := Elt F) (τ := τ) osem d : sProp 𝕄)
      = bigSep Finset.univ (laneOf fun k => semVal (cell d k) 0) := bigSep_OK fun k => semVal (cell d k) 0

theorem unscopedSems0_eq : (unscopedSems0 d : sProp 𝕄) = semVal (cell d kBar) 0 := by
  unfold unscopedSems0; rw [bigSep_eq_bigSepL_of_eq [csem kBar] (by decide) (by decide)]; rfl

theorem sems0_eq :
    iprop(Pipeline.ownSems0 (Ix := ℕ) (Name := ℕ) (U := UU) (Lvl := ℕ) (Val := Elt F) (τ := τ) osem d ∗ unscopedSems0 d)
      = (bigSep Finset.univ fun k : CK => semVal (cell d k) 0 : sProp 𝕄) := by
  rw [bigSep_CK, ownSems0_eq, unscopedSems0_eq]

/-! ## The global step -/

def cellsAt : sProp 𝕄 := bigSep Finset.univ fun k : CK => iprop(∃ κ : ℕ, cellInv ER (Rd X Wt) κ (cell d k))

theorem alloc_cells :
    iprop((bigSep Finset.univ fun k : CK => semVal (cell d k) 0) ∗ bigSep Finset.univ fun k : CK => roundState ER (Rd X Wt) (cell d k) 0)
      ⊢ (|={Set.univ}=> cellsAt X Wt d : sProp 𝕄) := by
  unfold cellsAt
  rw [← bigSep_sep']
  exact (bigSep_mono fun k _ => (Rounds.body_intro ER (Rd X Wt) (cell d k)).trans inv_alloc).trans (bigSep_fupd _ _)

theorem core_alloc :
    iprop(Pipeline.ownSems0 (Ix := ℕ) (Name := ℕ) (U := UU) (Lvl := ℕ) (Val := Elt F) (τ := τ) osem d ∗ unscopedSems0 d ∗ G X Wt d)
      ⊢ (|={Set.univ}=> (cellsAt X Wt d ∗ (bigSep Finset.univ fun k : CK => reached ER (cell d k) 0) ∗ linear d ∗ slotsKnown) : sProp 𝕄) := by
  unfold G
  iintro ⟨Hos, Hus, Hst, Hr, Hl, Hk⟩
  imod (alloc_cells X Wt d) $$ [Hos Hus Hst] with HI
  · isplitr [Hst]
    · iapply (Entails.of_eq (sems0_eq (F := F) d))
      isplitl [Hos] <;> iassumption
    iexact Hst
  imodintro
  isplitl [HI]; · iexact HI
  isplitl [Hr]; · iexact Hr
  isplitl [Hl] <;> iassumption

/-- What every device knows, but for the levels. -/
def known : sProp 𝕄 :=
  iprop(∃ (K : Dev nD × CK → ℕ) (κ : Key → ℕ), (bigSep Finset.univ fun p : Dev nD × CK => cellInv ER (Rd X Wt) (K p) (cell p.1 p.2))
    ∗ (bigSep Finset.univ fun p : Dev nD × CK => reached ER (cell p.1 p.2) 0)
    ∗ bigSep Finset.univ fun k : Key => slotInv EL (κ k) k (own1 k.1 (recvV k.2.1 k.2.2)))

instance known_persistent : BI.Persistent (known X Wt) := by unfold known; infer_instance

/-- What the global step makes of a device's share. -/
def G' : sProp 𝕄 := iprop(known X Wt ∗ linear d)

theorem bigSep_known (Φ : Dev nD → sProp 𝕄) : iprop(known X Wt ∗ bigSep Finset.univ Φ) ⊢ bigSep Finset.univ fun d => iprop(known X Wt ∗ Φ d) := by
  rw [bigSep_sep']
  exact sep_mono_left (BI.bigSep_of_persistent _ _)

theorem bigSep_slotsKnown : (bigSep Finset.univ fun _ : Dev nD => (slotsKnown : sProp 𝕄)) ⊢ slotsKnown :=
  bigSep_elim (Φ := fun _ : Dev nD => (slotsKnown : sProp 𝕄)) (Finset.mem_univ (0 : Dev nD))

theorem cells_names : (bigSep Finset.univ fun d : Dev nD => cellsAt X Wt d)
    ⊢ iprop(∃ K : Dev nD × CK → ℕ, bigSep Finset.univ fun p : Dev nD × CK => cellInv ER (Rd X Wt) (K p) (cell p.1 p.2)) := by
  unfold cellsAt
  rw [← bigSep_univ_prod (fun p : Dev nD × CK => iprop(∃ κ : ℕ, cellInv ER (Rd X Wt) κ (cell p.1 p.2)))]
  exact BI.bigSep_exists_pi Finset.univ (fun (p : Dev nD × CK) (κ : ℕ) => (cellInv ER (Rd X Wt) κ (cell p.1 p.2) : sProp 𝕄))

theorem regroup :
    (bigSep Finset.univ fun d : Dev nD => iprop(cellsAt X Wt d ∗ (bigSep Finset.univ fun k : CK => reached ER (cell d k) 0) ∗ linear d ∗ slotsKnown) : sProp 𝕄)
      ⊢ bigSep Finset.univ (G' X Wt) := by
  rw [bigSep_sep', bigSep_sep', bigSep_sep', ← bigSep_univ_prod (fun p : Dev nD × CK => (reached ER (cell p.1 p.2) 0 : sProp 𝕄))]
  iintro ⟨HI, HR, Hl, Hk⟩
  ihave HK := (cells_names X Wt) $$ HI
  icases HK with ⟨%K, HI⟩
  ihave Hk := (bigSep_slotsKnown (F := F)) $$ Hk
  unfold slotsKnown
  icases Hk with ⟨%κ, Hk⟩
  iapply (bigSep_known X Wt linear)
  isplitr [Hl]
  · unfold known
    iexists K; iexists κ
    isplitl [HI]; · iexact HI
    isplitl [HR] <;> iassumption
  iexact Hl

theorem glob :
    (bigSep Finset.univ fun d => iprop(Pipeline.ownSems0 (Ix := ℕ) (Name := ℕ) (U := UU) (Lvl := ℕ) (Val := Elt F) (τ := τ) osem d ∗ unscopedSems0 d ∗ G X Wt d) : sProp 𝕄)
      ⊢ |={Set.univ}=> bigSep Finset.univ (G' X Wt) :=
  ((bigSep_mono fun d _ => core_alloc X Wt d).trans (bigSep_fupd _ _)).trans (BI.fupd_mono (regroup X Wt))

end Cert.Ring
-- ==== Proof.BodyEq.lean ====
/-
  The printed body is the program over lanes and steps of Clean.lean: both unfold to the same operations.
-/
module

public import proofs.«01_k».proof.Proof.Clean

@[expose] public section

noncomputable section

namespace Cert.Ring

open Cert.KernelIdeal Cert.KernelIdeal.Gen
open Idealize.ShloMosaic Idealize.ShloMosaic.TcCoe Idealize.SL.Sem

variable {F : FTy → Type} [FloatOps F]

set_option maxRecDepth 1000000 in
set_option maxHeartbeats 0 in
theorem body_eq : cc0_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 = prog (F := F) := rfl

end Cert.Ring
-- ==== Proof.Launch.lean ====
/-
  The body of the kernel as the pipeline meets it, the launch, and the run of the whole program.
-/
module

public import proofs.«01_k».proof.Proof.Start
public import proofs.«01_k».proof.Proof.BodyEq

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

/-! ## A device's run of the body -/

/-- What a device starts from, but for its scratch. -/
def devStart (f : Buf (Elt F) (outL d)) : sProp 𝕄 :=
  iprop(known X Wt ∗ linear d ∗ levAts Lx lv ∗ ((all fun L => laneCreds L d) ∗ cred (tallyAt (cell d kBar) 0 2)) ∗ outL d ↦{fullShare} f)

/-- The result's buffer, every chunk of it at what its lane computes. -/
def outFull : sProp 𝕄 := iprop(∃ g : Buf (Elt F) (outL d), ⌜∀ (L : Lane) (n : Fin 16), readsAt X Wt d (L, n) g⌝ ∗ outL d ↦{fullShare} g)

/-- What a device ends with, but for its staged inputs. -/
def finish : sProp 𝕄 :=
  iprop((all fun L => laneOf (fun k => semVal (cell d k) 0) L) ∗ semVal (cell d kBar) 0 ∗ (all fun L => laneWhole L d) ∗ outFull X Wt d)

theorem Ctx_intro : iprop(levAts Lx lv ∗ known X Wt) ⊢ iprop(∃ K κ, Ctx X Wt K κ) := by
  unfold known Ctx
  iintro ⟨Hl, %K, %κ, H⟩
  iexists K; iexists κ
  isplitl [Hl]; · iexact Hl
  iexact H

theorem lane_start :
    iprop(Ctx X Wt K κ ∗ lanePos L d ∗ laneTok L d ∗ readers L d ∗ laneCreds L d ∗ laneWhole L d ∗ bigSep (Finset.range 16) fun n => own1 d (outV L d n))
      ⊢ iprop(slots0 L d ∗ preSt X Wt L d) := by
  unfold laneWhole
  iintro ⟨#HC, Hp, Ht, Hr, Hc, ⟨Hs, Hv, Hg⟩, Ho⟩
  ihave Hs' := (send_split d L) $$ [Hs]; · iexact Hs
  ihave Hv' := (recv_split d L) $$ [Hv]; · iexact Hv
  ihave Hg' := (stage_split d L) $$ [Hg]; · iexact Hg
  isplitl [Hr Hv']
  · unfold slots0
    isplitl [Hr]; · unfold readers; iexact Hr
    iexact Hv'
  iapply (pre_of X Wt K κ L d)
  isplitr; · iexact HC
  isplitl [Hp]; · iexact Hp
  isplitl [Ht]; · iexact Ht
  isplitl [Hc]; · iexact Hc
  isplitl [Hs']; · iexact Hs'
  isplitl [Hg']; · iexact Hg'
  iexact Ho

theorem all_start :
    iprop(Ctx X Wt K κ ∗ (all fun L => lanePos L d) ∗ (all fun L => laneTok L d) ∗ (all fun L => readers L d) ∗ (all fun L => laneCreds L d)
        ∗ (all fun L => laneWhole L d) ∗ all fun L => bigSep (Finset.range 16) fun n => own1 d (outV L d n))
      ⊢ iprop((all fun L => slots0 L d) ∗ all fun L => preSt X Wt L d) := by
  have h (L : Lane) := lane_start X Wt K κ L d
  unfold all
  iintro ⟨#HC, ⟨P0, P2, P1, P3⟩, ⟨T0, T2, T1, T3⟩, ⟨R0, R2, R1, R3⟩, ⟨C0, C2, C1, C3⟩, ⟨W0, W2, W1, W3⟩, O0, O2, O1, O3⟩
  ihave H0 := (h .q0) $$ [P0 T0 R0 C0 W0 O0]
  · isplitr; · iexact HC
    isplitl [P0]; · iexact P0
    isplitl [T0]; · iexact T0
    isplitl [R0]; · iexact R0
    isplitl [C0]; · iexact C0
    isplitl [W0] <;> iassumption
  ihave H2 := (h .q2) $$ [P2 T2 R2 C2 W2 O2]
  · isplitr; · iexact HC
    isplitl [P2]; · iexact P2
    isplitl [T2]; · iexact T2
    isplitl [R2]; · iexact R2
    isplitl [C2]; · iexact C2
    isplitl [W2] <;> iassumption
  ihave H1 := (h .q1) $$ [P1 T1 R1 C1 W1 O1]
  · isplitr; · iexact HC
    isplitl [P1]; · iexact P1
    isplitl [T1]; · iexact T1
    isplitl [R1]; · iexact R1
    isplitl [C1]; · iexact C1
    isplitl [W1] <;> iassumption
  ihave H3 := (h .q3) $$ [P3 T3 R3 C3 W3 O3]
  · isplitr; · iexact HC
    isplitl [P3]; · iexact P3
    isplitl [T3]; · iexact T3
    isplitl [R3]; · iexact R3
    isplitl [C3]; · iexact C3
    isplitl [W3] <;> iassumption
  icases H0 with ⟨A0, B0⟩
  icases H2 with ⟨A2, B2⟩
  icases H1 with ⟨A1, B1⟩
  icases H3 with ⟨A3, B3⟩
  isplitl [A0 A2 A1 A3]
  · isplitl [A0]; · iexact A0
    isplitl [A2]; · iexact A2
    isplitl [A1] <;> iassumption
  isplitl [B0]; · iexact B0
  isplitl [B2]; · iexact B2
  isplitl [B1] <;> iassumption

theorem all_join : (all fun L => laneBufs L d) ⊢ (all fun L => laneWhole L d : sProp 𝕄) := by
  unfold all
  iintro ⟨H0, H2, H1, H3⟩
  isplitl [H0]; · iapply (lane_join .q0 d) $$ H0
  isplitl [H2]; · iapply (lane_join .q2 d) $$ H2
  isplitl [H1]; · iapply (lane_join .q1 d) $$ H1
  iapply (lane_join .q3 d) $$ H3

theorem finish_intro (f : Buf (Elt F) (outL d)) : endAll X Wt d ⊢ finish X Wt d := by
  unfold endAll finish outFull
  iintro ⟨H1, H2, H3, H4⟩
  isplitl [H1]; · iexact H1
  isplitl [H2]; · iexact H2
  isplitl [H3]; · iapply (all_join d) $$ H3
  iapply (out_join X Wt d f) $$ H4

theorem wp_body (f : Buf (Elt F) (outL d)) :
    iprop((devStart X Wt d f ∗ all fun L => laneWhole L d) ∗ ins X Wt d ∗ owing d (O₀ d))
      ⊢ iprop(((ins X Wt d ∗ owing d 0 ∗ finish X Wt d) -∗ Q ⟨⟩) -∗ WP d prog Q) := by
  unfold devStart linear
  rw [bigSep_lane, bigSep_lane, bigSep_lane]
  iintro ⟨⟨⟨Hkn, ⟨Hp, Hb, Ht, Hbt, Hrd⟩, Hl, ⟨Hc, Hcb⟩, Ho⟩, Hw⟩, Hin, HO⟩ Hk
  ihave HC := (Ctx_intro X Wt) $$ [Hl Hkn]
  · isplitl [Hl] <;> iassumption
  icases HC with ⟨%K, %κ, #HC⟩
  ihave Ho' := (out_split d f) $$ Ho
  ihave HS := (all_start X Wt K κ d) $$ [Hp Ht Hrd Hc Hw Ho']
  · isplitr; · iexact HC
    isplitl [Hp]; · iexact Hp
    isplitl [Ht]; · iexact Ht
    isplitl [Hrd]; · iexact Hrd
    isplitl [Hc]; · iexact Hc
    isplitl [Hw] <;> iassumption
  icases HS with ⟨Hs0, Hpre⟩
  iapply (wp_prog X Wt K κ d Q) $$ [Hin HO Hb Hcb Hbt Hs0 Hpre]
  · isplitr; · iexact HC
    isplitl [Hin]; · iexact Hin
    isplitl [HO]; · iexact HO
    isplitl [Hb Hcb Hbt]
    · unfold barSt barTok
      isplitl [Hb]; · iexact Hb
      isplitl [Hcb] <;> iassumption
    isplitl [Hs0] <;> iassumption
  iintro ⟨Hin, HO, Hb, Hd⟩
  imod (close_all X Wt K κ d) $$ [Hb Hd] with HE
  · isplitr; · iexact HC
    isplitl [Hb] <;> iassumption
  rw [wp_ret]
  imodintro
  iapply Hk
  isplitl [Hin]; · iexact Hin
  isplitl [HO]; · iexact HO
  iapply (finish_intro X Wt d f) $$ HE

/-! ## The proof data -/

section Run

variable (m : (ℓ : Loc nD τ sig) → Buf (Elt F) ℓ) (ρ : Dev nD → PrngReg)

def xstg (c : Dev nD) : (cc0_stg0_0 : Ref sig .tc).ty.Contents (Elt F) := (win0_0.blk (0 : Fin 1)).view.read (Elt F) (m ((c : Thread nD τ).loc main_arg0))
def wstg (c : Dev nD) : (cc0_stg1_0 : Ref sig .tc).ty.Contents (Elt F) := (win0_1.blk (0 : Fin 1)).view.read (Elt F) (m ((c : Thread nD τ).loc main_arg1))

def Φ₀ (c : Dev nD) : sProp 𝕄 := iprop(devStart (xstg m) (wstg m) c (m (outL c)) ∗ all fun L => laneWhole L c)
def Φ₁ (c : Dev nD) : sProp 𝕄 := finish (xstg m) (wstg m) c

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := t0_0
theorem fin_N (t : Fin cfg0.N) : t = t₀ := fin_N0 t
theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer at contents. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(Φ₀ m c ∗ (dats m 0 c).owesAt 0 t₀.castSucc
    ∗ (∃ d, stg c cc0_stg0_0 ((dats m 0 c).before (0 : Fin 2) t₀ d)) ∗ (∃ d, stg c cc0_stg1_0 ((dats m 0 c).before (1 : Fin 2) t₀ d)))
def bodyPost (c : Dev nD) : sProp 𝕄 :=
  iprop(Φ₁ m c ∗ (dats m 0 c).owesAt 0 t₀.succ ∗ stg c cc0_stg0_0 (xstg m c) ∗ stg c cc0_stg1_0 (wstg m c))

theorem body_run (c : Dev nD) : bodyPre m c ⊢ WP c (prog : Pgm F) fun _ => bodyPost m c := by
  unfold bodyPre bodyPost Φ₀ Φ₁
  iintro ⟨HΦ, Ho, ⟨%d0, %g0, %hg0, Hx⟩, ⟨%d1, %g1, %hg1, Hw⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx
  subst hw
  unfold Dat.owesAt Pipeline.owesWithin
  icases Ho with ⟨%W, %hW, HO⟩
  rw [show (dats m 0 c).owed t₀.castSucc = O₀ c from rfl, show (dats m 0 c).owed t₀.succ = 0 from rfl]
  iapply (wp_body (xstg m) (wstg m) c _ (m (outL c))) $$ [HΦ HO Hx Hw]
  · isplitl [HΦ]; · iexact HΦ
    isplitl [Hx Hw]
    · unfold ins
      isplitl [Hx]; · iexact Hx
      iexact Hw
    unfold owing
    iexists W; iexact HO
  unfold ins owing
  iintro ⟨⟨Hx, Hw⟩, ⟨%W', HO⟩, Hf⟩
  isplitl [Hf]; · iexact Hf
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 100000 in
theorem body_obligation (c : Dev nD) : BodyObligation (dats (F := F) m 0 c) (defs₀ (F := F)) 𝒱₀ 0 Set.univ := fun t => by
  rw [fin_N t]
  rw [bigSep_W0, bigSep_W0]
  simp only [owns_whole_eq]
  have h := body_run m c
  rw [← body_eq] at h
  exact h

end Run

end Cert.Ring
-- ==== Proof.Run.lean ====
/-
  The run of the whole program: the launch theorem at the proof data of Launch.lean.
-/
module

public import proofs.«01_k».proof.Proof.Launch
public import Idealize.ShloMosaic.Lib.Pipeline.CollectiveSegs

@[expose] public section

set_option maxRecDepth 8000

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Wt : Dev nD → (cc0_stg1_0 : Ref sig .tc).ty.Contents (Elt F))
variable (K : Dev nD × CK → ℕ) (κ : Key → ℕ)
variable (L : Lane) (d : Dev nD) (O : CellTallies nD τ sig ℕ) (Q : Post F) (k : Pgm F)

variable (m : (ℓ : Loc nD τ sig) → Buf (Elt F) ℓ) (ρ : Dev nD → PrngReg)

theorem share_eq (c : Dev nD) (w : Fin cfg0.W) : (dats m 0 c).share w = fullShare := by unfold Dat.share; split <;> rfl

theorem Lx_of_ne (g : GSem nD τ sig) (h : g.1.2 ≠ .tc) : Lx g = ∅ := if_neg h

/-! ## The waits of the staging cells -/

theorem O₀_above : Above 0 (O₀ d) := by
  have h (L : Lane) : Above 0 (owL L d 0 0) := owL_above L d (by omega) (by omega)
  unfold O₀ tot
  exact (((((h .q0).add (h .q2)).add (h .q1)).add (h .q3)).add (Above.at (by omega) (by decide))).add (Above.at (by omega) (by decide))

theorem mayWait_stage (q : DmaSem sig) (hq : ∀ k, csem k ≠ .dma q) (O : CellTallies nD τ sig ℕ) (hO : O = O₀ d ∨ O = 0) :
    (levAts Lx lv : sProp 𝕄) ⊢ MayWait (d : Thread nD τ) (.dma q) 0 O := by
  rcases hO with rfl | rfl
  · refine MayOwe.of_cut 0 (fun p hp => ?_) (fun g v h => (O₀_above d g v h).1) (fun p hp => ?_) (fun g v h => (O₀_above d g v h).2)
    · rw [Finset.mem_singleton.1 hp]
      show 0 ∈ Lx ((d : Thread nD τ), SemLoc.dma q)
      unfold Lx; rw [if_pos rfl]; decide
    · rw [Finset.mem_singleton.1 hp]
      show lv ((d : Thread nD τ), SemLoc.dma q) 0 ≤ 0
      unfold lv; rw [kindOf_none hq]; exact le_rfl
  · rw [MayWait_zero]; iintro -; iempintro

theorem stage_ne (w : Fin cfg0.W) (s : Fin (cfg0.spec w).nbuf) : ∀ k, csem k ≠ .dma ((cfg0.spec w).sem s) := by
  revert w s; decide +kernel

theorem waits (c : Dev nD) : (levAts Lx lv : sProp 𝕄) ⊢ Pipeline.cellsWaits cfgs (dats m) 0 0 c :=
  Pipeline.cellsWaits_intro cfgs (dats m) 0 0 c fun w s t =>
    mayWait_stage c _ (stage_ne w s) _ (by
      rcases t with ⟨_ | _, ht⟩
      · exact Or.inl rfl
      · exact Or.inr rfl)

/-! ## The launch -/

def u₀ : UU :=
  (initOf (Pipeline.cells cfgs cellOf_inj) (Pipeline.launchToks cfgs cellOf_inj), (initOf ringCells ringToks, initSlots Finset.univ 10))

theorem launch_split :
    (ownU u₀ : sProp 𝕄) ⊢ (|={Set.univ}=> (BI.own (EP (initOf (Pipeline.cells cfgs cellOf_inj) (Pipeline.launchToks cfgs cellOf_inj)))
      ∗ bigSep Finset.univ (G (xstg m) (wstg m))) : sProp 𝕄) := by
  unfold u₀
  iintro Hu
  ihave H := (ownU_pair _ _) $$ Hu
  icases H with ⟨HP, HX⟩
  ihave H := (own_pair_emb embR _ _) $$ HX
  icases H with ⟨HR, HL⟩
  imod (fund_all (xstg m) (wstg m)) $$ [HR HL] with HG
  · isplitl [HR]; · iexact HR
    iexact HL
  imodintro
  isplitl [HP] <;> iassumption

theorem start_intro (c : Dev nD) :
    iprop(Pipeline.unscopedRestP Pipeline.Prefetch.none cfg0.spec c (fun b => m ((c : Thread nD τ).loc b)) ∗ levAts Lx lv
        ∗ Pipeline.launchCred O₀ c ∗ prngReg c (ρ c) ∗ G' (xstg m) (wstg m) c)
      ⊢ (|={Set.univ}=> (devStart (xstg m) (wstg m) c (m (outL c)) ∗ emp) : sProp 𝕄) := by
  rw [Pipeline.unscopedRestP_none, unscopedRest0_eq]
  unfold G' devStart
  iintro ⟨Ho, Hl, Hcr, -, Hk, Hlin⟩
  ihave Hc := (creds c) $$ Hcr
  imodintro
  isplitl
  · isplitl [Hk]; · iexact Hk
    isplitl [Hlin]; · iexact Hlin
    isplitl [Hl]; · iexact Hl
    isplitl [Hc]; · iexact Hc
    iexact Ho
  iempintro

theorem phi0_intro (c : Dev nD) :
    iprop(devStart (xstg m) (wstg m) c (m (outL c)) ∗ Pipeline.prefHeld Pipeline.Prefetch.none c (fun _ => fullShare.right) (fun k => k.elim0)
        ∗ Pipeline.scopedRest cfg0.spec c) ⊢ (dats m 0 c).Φ 0 := by
  rw [show (dats m 0 c).Φ 0 = Φ₀ m c from rfl]
  unfold Φ₀
  iintro ⟨Hs, -, Hr⟩
  isplitl [Hs]; · iexact Hs
  iapply (scratch_lanes c) $$ Hr

/-- What a device brings out of the kernel. -/
def Y (c : Dev nD) : sProp 𝕄 := iprop(unscopedSems0 c ∗ outFull (xstg m) (wstg m) c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl]
  unfold Φ₁ finish Y
  rw [ownSems0_eq, unscopedSems0_eq, bigSep_lane]
  iintro ⟨H1, H2, H3, H4⟩
  isplitl [H2 H4]
  · isplitl [H2] <;> iassumption
  isplitl [H1]; · iexact H1
  iapply (lanes_scratch c) $$ H3

/-! ## The run -/

/-- The result on a device: every chunk of its buffer at what its lane computes. -/
def OutAt (c : Dev nD) (s : MemSt nD τ sig (Elt F)) : Prop := ∀ (L : Lane) (n : Fin 16), readsAt (xstg m) (wstg m) c (L, n) (s.mem (outL c))

theorem read_out (c : Dev nD) (s' : Phys nD τ sig (Elt F)) :
    iprop(outFull (xstg m) (wstg m) c ∗ SI s') ⊢ (⌜OutAt m c s'.mem⌝ : sProp 𝕄) := by
  unfold outFull
  iintro ⟨⟨%g, %hg, Ho⟩, HSI⟩
  ihave %h := (SI_pointsTo_agree) $$ [HSI Ho]
  · isplitl [HSI] <;> iassumption
  ipureintro
  have e : s'.mem.mem (outL c) = g := funext fun i => h i (Finset.mem_univ i)
  intro L n
  rw [e]; exact hg L n

set_option maxRecDepth 200000 in
theorem run_main :
    θ_run defs (onTc (τ := τ) (main (F := F))) ⟨m, fun _ => 0, ρ⟩ fun r =>
      (∀ c : Dev nD, (∀ w : Fin cfg0.W, r.2.mem ((cfg0.win w).arr.view.loc (c : Thread nD τ)) = (dats m 0 c).arrAt w cfg0.N) ∧ OutAt m c r.2)
        ∧ r.2.sem = fun _ => 0 :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := Lx) (lv := lv) (hL := Lx_of_ne) (hwaits := waits m)
    (G := G (xstg m) (wstg m)) (G' := G' (xstg m) (wstg m)) (u₀ := u₀) (hu₀ := launch_split m) (hglob := glob (xstg m) (wstg m))
    (hA := fun _ _ => rfl) (hpf := fun _ k => k.elim0)
    (X := fun c => devStart (xstg m) (wstg m) c (m (outL c))) (Y := Y m) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ OutAt m c s)
    (hY := fun c s' => by
      unfold Y
      iintro ⟨⟨Hu, Ho⟩, -, HSI⟩
      ihave %h := (read_out m c s') $$ [Ho HSI]
      · isplitl [Ho] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨fun c => ⟨fun w => (h c).1 w, (h c).2.2.2⟩, sem_eq_zero hs fun c => (h c).2.2.1⟩)

theorem final_x (c : Dev nD) : (dats (F := F) m 0 c).arrAt (0 : Fin 2) cfg0.N = m ((c : Thread nD τ).loc main_arg0) := (dats (F := F) m 0 c).arrAt_in (0 : Fin 2) rfl _
theorem final_w (c : Dev nD) : (dats (F := F) m 0 c).arrAt (1 : Fin 2) cfg0.N = m ((c : Thread nD τ).loc main_arg1) := (dats (F := F) m 0 c).arrAt_in (1 : Fin 2) rfl _

/-- Every run ends, the arguments as they were, every chunk of every device's result computed, every semaphore at zero. -/
theorem run_end :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1) ∧ OutAt m c r.2) ∧ r.2.sem = fun _ => 0 :=
  (θ_run defs _ _).mono (fun r h => ⟨fun c => ⟨((h.1 c).1 (0 : Fin 2)).trans (final_x m c), ((h.1 c).1 (1 : Fin 2)).trans (final_w m c), (h.1 c).2⟩, h.2⟩) (run_main m ρ)

end Cert.Ring
-- ==== Proof.Frames.lean ====
/-
  The frames of the two kernels: both are the run of Run.lean, at words and at extended reals.
-/
module

public import proofs.«01_k».proof.Defs
public import proofs.«01_k».proof.Proof.Gen.Kernel
public import proofs.«01_k».proof.Proof.Run

@[expose] public section

noncomputable section

namespace Cert.Ring

open Idealize.ShloMosaic Idealize.SL.Sem

variable {F : FTy → Type} [FloatOps F]

open Cert.KernelIdeal in
theorem run_frame (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c).1, (h.1 c).2.1⟩, h.2⟩) (run_end m g)

theorem frame_ideal : Cert.quiescent_KernelIdeal := fun m g _ => run_frame m g

set_option maxRecDepth 1000000 in
set_option maxHeartbeats 0 in
/-- The two kernels' bodies are one text. -/
theorem bodies_eq : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | ⟨0, _⟩, (t, s) =>
    show Cert.Kernel.cc0_body (F := Bits) _ _ _ _ _ _ _ _ _ _ _ _ _ _ _ _ _ _ _ _ _ _ _ _ _ _ _ _ _ _ _ _ _ _ _ _ _ _ _ _ _ _ _ _ _ _
      = Cert.KernelIdeal.cc0_body (F := Bits) _ _ _ _ _ _ _ _ _ _ _ _ _ _ _ _ _ _ _ _ _ _ _ _ _ _ _ _ _ _ _ _ _ _ _ _ _ _ _ _ _ _ _ _ _ _
    unfold Cert.Kernel.cc0_body Cert.KernelIdeal.cc0_body
    rfl

theorem defs_eq : (Cert.Kernel.defs (F := Bits)) = (Cert.KernelIdeal.defs (F := Bits)) :=
  congrArg (Pipeline.defs (Cert.KernelIdeal.pcfgs (F := Bits))) bodies_eq

theorem frame_kernel : Cert.quiescent_Kernel := fun m g _ => by
  have h := run_frame (F := Bits) m g
  rw [← defs_eq] at h
  exact h

end Cert.Ring
-- ==== Proof.Values.lean ====
/-
  What the kernel's chunks hold over the extended reals: the GELU of the sum of all devices' products.
-/
module

public import proofs.«01_k».proof.Proof.Run
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.Ring

open Cert.KernelIdeal Cert.KernelIdeal.Gen
open Idealize.ShloMosaic
open Idealize.ShloMosaic.TcCoe Idealize.SL.Sem Idealize.ShloMosaic.ValueIdx
open scoped BigOperators

/-! ## Going round the ring -/

/-- The device `n` places upstream. -/
def devAt (L : Lane) (d : Dev nD) (n : ℕ) : Dev nD := ⟨upAt L d n, upAt_lt L d n⟩

theorem up_src (L : Lane) (d : Dev nD) (n : Fin 16) : upAt L (src L d) n = upAt L d (n + 1) := by revert L d n; decide +kernel
theorem up_full (L : Lane) (d : Dev nD) : upAt L d 16 = upAt L d 0 := by revert L d; decide +kernel
theorem dev_one (L : Lane) (d : Dev nD) : devAt L d 1 = src L d := by revert L d; decide +kernel
theorem dev_zero (L : Lane) (d : Dev nD) : devAt L d 0 = d := by revert L d; decide +kernel
theorem off1_eq (d : Dev nD) : k0_off1 d = ![256 * d.val, 0] := by revert d; decide +kernel
theorem src_val (L : Lane) (d : Dev nD) : (src L d).val = upAt L d 1 := by revert L d; decide +kernel
theorem dev_bij (L : Lane) (d : Dev nD) : Function.Bijective fun n : Fin 16 => devAt L d n := by
  refine (Finite.injective_iff_bijective).1 ?_
  revert L d; decide +kernel

theorem dev_src (L : Lane) (d : Dev nD) (n : ℕ) (h : n < 16) : devAt L (src L d) n = devAt L d (n + 1) :=
  Fin.ext (up_src L d ⟨n, h⟩)

/-! ## One device's product -/

/-- A row of block `b`. -/
def row (b : ℕ) (r : Fin 256) : Fin 4096 := ⟨(256 * b + r.val) % 4096, Nat.mod_lt _ (by decide)⟩
/-- A column of a lane's quarter. -/
def colAt (L : Lane) (c : Fin 2048) : Fin 8192 := ⟨(col L + c.val) % 8192, Nat.mod_lt _ (by decide)⟩

theorem row_val {b : ℕ} (hb : b < 16) (r : Fin 256) : (row b r).val = 256 * b + r.val := Nat.mod_eq_of_lt (by omega)
theorem colAt_val (L : Lane) (c : Fin 2048) : (colAt L c).val = col L + c.val := by
  refine Nat.mod_eq_of_lt ?_
  have := c.isLt
  have : col L ≤ 6144 := by cases L <;> decide
  omega

section Values

variable (X : Dev nD → (cc0_stg0_0 : Ref sig .tc).ty.Contents (Elt Ideal)) (Wt : Dev nD → (cc0_stg1_0 : Ref sig .tc).ty.Contents (Elt Ideal))

/-- A device's part of `x` and of `w`, as extended reals. -/
def xAt (e : Dev nD) : S4096x256.Idx → EReal := X e
def wAt (e : Dev nD) : S256x8192.Idx → EReal := Wt e

/-- A device's product at row `i` and column `j`. -/
def prodAt (e : Dev nD) (i : Fin 4096) (j : Fin 8192) : EReal := ∑ k : Fin 256, xAt X e (ix2 i k) * wAt Wt e (ix2 k j)

/-- The product of two blocks, at an index. -/
theorem partialV_apply (x : Vec Ideal S256x256 .bf16) (w : Vec Ideal S256x2048 .bf16) (r : Fin 256) (c : Fin 2048) :
    partialV x w (ix2 r c) = ∑ k : Fin 256, (x : S256x256.Idx → EReal) (ix2 r k) * (w : S256x2048.Idx → EReal) (ix2 k c) := by
  unfold partialV
  rw [shapeCast_self, shapeCast_self]
  exact (Ideal.matmul_plain_apply (φ₁ := .bf16) (φ₂ := .bf16) none x w _ r c).trans (by show Ideal.ofBits .f32 0 + _ = _; simp [Ideal.ofBits_zero_f32])

/-- The product of the blocks read at row block `b` and a lane's quarter. -/
theorem partial_read (L : Lane) (d : Dev nD) (b : ℕ) (hb : b < 16) (off : Fin 2 → ℕ) (inb : ∀ a, off a + S256x256.size a ≤ S4096x256.size a)
    (ho : off = ![256 * b, 0]) (r : Fin 256) (c : Fin 2048) :
    partialV (F := Ideal) (xM.view.readAt (Elt Ideal) (Rect.unit (s := S4096x256) off S256x256.size inb).toLoadRect (X d))
      (wM.view.readAt (Elt Ideal) (Rect.unit (s := S256x8192) ![0, col L] S256x2048.size (col_inb L)).toLoadRect (Wt d)) (ix2 r c)
      = prodAt X Wt d (row b r) (colAt L c) := by
  subst ho
  rw [partialV_apply]
  unfold prodAt
  refine Finset.sum_congr rfl fun k _ => ?_
  have hx : (xM.view.readAt (Elt Ideal) (Rect.unit (s := S4096x256) ![256 * b, 0] S256x256.size inb).toLoadRect (X d) : S256x256.Idx → EReal) (ix2 r k)
      = (xAt X d) (ix2 (row b r) k) := by
    refine congrArg (xAt X d) (funext fun a => Fin.ext ?_)
    match a with
    | ⟨0, _⟩ => show 256 * b + 1 * r.val = (row b r).val; rw [row_val hb, Nat.one_mul]
    | ⟨1, _⟩ => show 0 + 1 * k.val = k.val; omega
  have hw : (wM.view.readAt (Elt Ideal) (Rect.unit (s := S256x8192) ![0, col L] S256x2048.size (col_inb L)).toLoadRect (Wt d) : S256x2048.Idx → EReal) (ix2 k c)
      = (wAt Wt d) (ix2 k (colAt L c)) := by
    refine congrArg (wAt Wt d) (funext fun a => Fin.ext ?_)
    match a with
    | ⟨0, _⟩ => show 0 + 1 * k.val = k.val; omega
    | ⟨1, _⟩ => show col L + 1 * c.val = (colAt L c).val; rw [colAt_val, Nat.one_mul]
  exact congrArg₂ (fun p q : EReal => p * q) hx hw

theorem pv_apply (L : Lane) (d : Dev nD) (s : ℕ) (hs : s < 15) (r : Fin 256) (c : Fin 2048) :
    pv X Wt L d s (ix2 r c) = prodAt X Wt d (row (upAt L d (s + 1)) r) (colAt L c) :=
  partial_read X Wt L d _ (upAt_lt L d _) _ _ (by rw [xOff_eq, Nat.mod_eq_of_lt hs]) r c

theorem pv0_apply (L : Lane) (d : Dev nD) (r : Fin 256) (c : Fin 2048) :
    pv0 X Wt L d (ix2 r c) = prodAt X Wt d (row d.val r) (colAt L c) :=
  partial_read X Wt L d _ d.isLt _ _ (off1_eq d) r c

/-! ## The sum round the ring -/

/-- What hop `h` brings is the sum of the products of the `h + 1` devices upstream. -/
theorem arrA_apply (L : Lane) (h : ℕ) (hh : h < 15) (d : Dev nD) (r : Fin 256) (c : Fin 2048) :
    (arrA X Wt L h d (ix2 r c) : EReal) = ∑ t ∈ Finset.range (h + 1), prodAt X Wt (devAt L d (t + 1)) (row (upAt L d (h + 1)) r) (colAt L c) := by
  induction h generalizing d with
  | zero =>
    rw [Finset.sum_range_one, dev_one]
    show pv0 X Wt L (src L d) (ix2 r c) = _
    rw [pv0_apply, src_val]
  | succ h ih =>
    show (arrA X Wt L h (src L d) (ix2 r c) : EReal) + pv X Wt L (src L d) h (ix2 r c) = _
    rw [ih (by omega), pv_apply X Wt L _ h (by omega), Finset.sum_range_succ' _ (h + 1), dev_one, up_src L d ⟨h + 1, by omega⟩]
    refine congrArg₂ (fun p q : EReal => p + q) (Finset.sum_congr rfl fun t ht => ?_) rfl
    rw [dev_src L d (t + 1) (by have := Finset.mem_range.1 ht; omega)]

/-- The sum of all devices' products. -/
def total (i : Fin 4096) (j : Fin 8192) : EReal := ∑ e : Dev nD, prodAt X Wt e i j

theorem sum_all (L : Lane) (d : Dev nD) (r : Fin 256) (c : Fin 2048) :
    (addf (arrA X Wt L 14 d) (pv X Wt L d 14) (ix2 r c) : EReal) = total X Wt (row (upAt L d 15) r) (colAt L c) := by
  show (arrA X Wt L 14 d (ix2 r c) : EReal) + pv X Wt L d 14 (ix2 r c) = _
  rw [arrA_apply X Wt L 14 (by omega), pv_apply X Wt L d 14 (by omega)]
  unfold total
  rw [← (dev_bij L d).sum_comp fun e => prodAt X Wt e (row (upAt L d 15) r) (colAt L c),
    Fin.sum_univ_eq_sum_range fun n => prodAt X Wt (devAt L d n) (row (upAt L d 15) r) (colAt L c), Finset.sum_range_succ' _ 15, dev_zero]

/-- The GELU of one value. -/
def gelu1 (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

theorem geluV_apply (z : FVec Ideal S256x2048 .bf16) (j : S256x2048.Idx) : (geluV z j : EReal) = gelu1 (z j) := rfl

/-- The finished chunk of row block `b`. -/
def done (L : Lane) (b : ℕ) : S256x2048.Idx → EReal := fun j => gelu1 (total X Wt (row b (j 0)) (colAt L (j 1)))

theorem gel_eq (L : Lane) (d : Dev nD) : (gel X Wt L d : S256x2048.Idx → EReal) = done X Wt L (upAt L d 15) := by
  funext j
  rw [eq_ix2 j]
  exact (geluV_apply _ _).trans (congrArg gelu1 (sum_all X Wt L d _ _))

theorem arrB_eq (L : Lane) (n : ℕ) (hn : n < 16) (d : Dev nD) : (arrB X Wt L n d : S256x2048.Idx → EReal) = done X Wt L (upAt L d n) := by
  induction n generalizing d with
  | zero =>
    show (gel X Wt L (src L d) : S256x2048.Idx → EReal) = _
    rw [gel_eq, up_src L d ⟨15, by omega⟩]
    exact congrArg _ (up_full L d)
  | succ n ih =>
    show (arrB X Wt L n (src L d) : S256x2048.Idx → EReal) = _
    rw [ih (by omega), up_src L d ⟨n, by omega⟩]

theorem outv_eq (L : Lane) (d : Dev nD) (n : ℕ) (hn : n < 16) : (outv X Wt L d n : S256x2048.Idx → EReal) = done X Wt L (upAt L d (flAt n)) := by
  cases n with
  | zero => exact gel_eq X Wt L d
  | succ n =>
    show (arrB X Wt L n d : S256x2048.Idx → EReal) = _
    rw [arrB_eq X Wt L n (by omega), show flAt (n + 1) = n by unfold flAt; omega]

/-! ## The whole result -/

/-- The whole result. -/
def whole : S4096x8192.Idx → EReal := fun i => gelu1 (total X Wt (i 0) (i 1))

/-- A buffer of which every chunk reads as its lane computes is the whole result. -/
theorem whole_of_reads (d : Dev nD) (f : Buf (Elt Ideal) (outL d)) (h : ∀ (L : Lane) (n : Fin 16), readsAt X Wt d (L, n) f) :
    (f : S4096x8192.Idx → EReal) = whole X Wt := by
  refine funext fun (i : S4096x8192.Idx) => ?_
  obtain ⟨p, -, hp⟩ := Finset.mem_biUnion.1 ((chunk_cover d).symm ▸ Finset.mem_univ (i : S4096x8192.Idx))
  obtain ⟨L, n⟩ := p
  replace hp := mem_chunk.1 hp
  obtain ⟨⟨h1, h2⟩, h3, h4⟩ := hp
  dsimp only at h1 h2 h3 h4
  have hr := congrFun (h L n) (ix2 (⟨(i 0 : ℕ) - 256 * upAt L d (flAt n), by omega⟩ : Fin 256) (⟨(i 1 : ℕ) - col L, by omega⟩ : Fin 2048))
  have hi : (f : S4096x8192.Idx → EReal) i = done X Wt L (upAt L d (flAt n)) (ix2 (⟨(i 0 : ℕ) - 256 * upAt L d (flAt n), by omega⟩ : Fin 256) (⟨(i 1 : ℕ) - col L, by omega⟩ : Fin 2048)) := by
    rw [← outv_eq X Wt L d n n.isLt]
    refine Eq.trans ?_ hr
    refine congrArg (f : S4096x8192.Idx → EReal) (funext fun a => Fin.ext ?_)
    match a with
    | ⟨0, _⟩ =>
      show (i 0 : ℕ) = oOff L d n 0 + 1 * ((i 0 : ℕ) - 256 * upAt L d (flAt n))
      rw [oOff_eq]; show (i 0 : ℕ) = 256 * upAt L d (flAt n) + _; omega
    | ⟨1, _⟩ =>
      show (i 1 : ℕ) = oOff L d n 1 + 1 * ((i 1 : ℕ) - col L)
      rw [oOff_eq]; show (i 1 : ℕ) = col L + _; omega
  rw [hi]
  unfold done whole
  refine congrArg gelu1 (congrArg₂ (total X Wt) (Fin.ext ?_) (Fin.ext ?_))
  · rw [row_val (upAt_lt L d _)]; show 256 * upAt L d (flAt n) + ((i 0 : ℕ) - 256 * upAt L d (flAt n)) = _; omega
  · rw [colAt_val]; show col L + ((i 1 : ℕ) - col L) = _; omega

end Values

end Cert.Ring
-- ==== Proof.Equation.lean ====
/-
  The kernel's result against the reference's: device `c`'s products summed over all devices are the whole product.
-/
module

public import proofs.«01_k».proof.Defs
public import proofs.«01_k».proof.Proof.Values
public import proofs.«01_k».proof.Proof.Gen.ReferenceIdeal.Run

@[expose] public section

noncomputable section

namespace Cert.Ring

open Idealize.ShloMosaic
open Idealize.ShloMosaic.TcCoe Idealize.SL.Sem Idealize.ShloMosaic.ValueIdx
open scoped BigOperators

/-! ## The devices' parts of the arguments -/

section Parts
open Cert.KernelIdeal Cert.KernelIdeal.Gen

variable (m : (ℓ : Loc nD τ sig) → Buf (Elt Ideal) ℓ)

theorem xstg_eq (c : Dev nD) : (xstg m c : S4096x256.Idx → EReal) = (m ((c : Thread nD τ).loc main_arg0) : S4096x256.Idx → EReal) :=
  Memref.read_access_unit_zero (Elt Ideal) main_arg0 (funext fun a => by fin_cases a <;> rfl) _ _

theorem wstg_eq (c : Dev nD) : (wstg m c : S256x8192.Idx → EReal) = (m ((c : Thread nD τ).loc main_arg1) : S256x8192.Idx → EReal) :=
  Memref.read_access_unit_zero (Elt Ideal) main_arg1 (funext fun a => by fin_cases a <;> rfl) _ _

/-- The sum over all devices, each with its columns of `A` and its rows of `B`, is the sum over all columns of `A`. -/
theorem total_eq (A : (⟨2, ![4096, 4096]⟩ : Shape).Idx → EReal) (B : (⟨2, ![4096, 8192]⟩ : Shape).Idx → EReal)
    (hA : ∀ c : Dev nD, (m ((c : Thread nD τ).loc main_arg0) : S4096x256.Idx → EReal) = Layout.block ⟨2, ![4096, 256]⟩ ⟨2, ![4096, 4096]⟩ 1 16 c A)
    (hB : ∀ c : Dev nD, (m ((c : Thread nD τ).loc main_arg1) : S256x8192.Idx → EReal) = Layout.block ⟨2, ![256, 8192]⟩ ⟨2, ![4096, 8192]⟩ 0 16 c B)
    (i : Fin 4096) (j : Fin 8192) :
    total (xstg m) (wstg m) i j = ∑ k : Fin 4096, A (ix2 i k) * B (ix2 k j) := by
  unfold total prodAt
  have h : ∀ (e : Dev nD) (k : Fin 256), xAt (xstg m) e (ix2 i k) * wAt (wstg m) e (ix2 k j)
      = (fun q : Fin (16 * 256) => A (ix2 i q) * B (ix2 q j)) (finProdFinEquiv ((e : Fin 16), k)) := fun e k => by
    unfold xAt wAt
    refine congrArg₂ (fun p q : EReal => p * q) ?_ ?_
    · refine (congrFun ((xstg_eq m e).trans (hA e)) (ix2 i k)).trans (congrArg A (funext fun a => Fin.ext ?_))
      match a with
      | ⟨0, _⟩ => rfl
      | ⟨1, _⟩ => show e.val * 256 + k.val = k.val + 256 * e.val; omega
    · refine (congrFun ((wstg_eq m e).trans (hB e)) (ix2 k j)).trans (congrArg B (funext fun a => Fin.ext ?_))
      match a with
      | ⟨0, _⟩ => show e.val * 256 + k.val = k.val + 256 * e.val; omega
      | ⟨1, _⟩ => rfl
  calc (∑ e : Dev nD, ∑ k : Fin 256, xAt (xstg m) e (ix2 i k) * wAt (wstg m) e (ix2 k j))
      = ∑ e : Fin 16, ∑ k : Fin 256, (fun q : Fin (16 * 256) => A (ix2 i q) * B (ix2 q j)) (finProdFinEquiv (e, k)) :=
        Finset.sum_congr rfl fun e _ => Finset.sum_congr rfl fun k _ => h e k
    _ = ∑ p : Fin 16 × Fin 256, (fun q : Fin (16 * 256) => A (ix2 i q) * B (ix2 q j)) (finProdFinEquiv p) := by
        rw [Fintype.sum_prod_type]
    _ = ∑ q : Fin (16 * 256), A (ix2 i q) * B (ix2 q j) := Equiv.sum_comp finProdFinEquiv fun q : Fin (16 * 256) => A (ix2 i q) * B (ix2 q j)

end Parts

/-! ## The reference -/

section Reference
open Cert.ReferenceIdeal Cert.ReferenceIdeal.Gen

/-- The reference's product, at an index. -/
theorem dot_apply (a : FVec Ideal S4096x4096 .bf16) (b : FVec Ideal S4096x8192 .bf16) (i : Fin 4096) (j : Fin 8192) :
    (Host.dotGeneral dot_S4096x4096_S4096x8192_S4096x8192_1_0_0_1_n_n none a b : FVec Ideal S4096x8192 .f32) (ix2 i j)
      = ∑ k : Fin 4096, (a : S4096x4096.Idx → EReal) (ix2 i k) * (b : S4096x8192.Idx → EReal) (ix2 k j) := by
  have h := Ideal.matmul_plain_apply (M := 4096) (K := 4096) (N := 8192) (φ₁ := .bf16) (φ₂ := .bf16) none a b (constant S4096x8192 .f32 0x00000000#32) i j
  rw [Ideal.matmul_constant_zero_apply] at h
  have z : (constant S4096x8192 .f32 0x00000000#32 : FVec Ideal S4096x8192 .f32) (ix2 i j) = (0 : EReal) := Ideal.ofBits_zero_f32
  rw [z, zero_add] at h
  exact (Ideal.dotGeneral_apply dot_S4096x4096_S4096x8192_S4096x8192_1_0_0_1_n_n none _ a b (ix2 i j)).trans h

/-- The reference's result as one term of its product. -/
def refOf (y : FVec Ideal S4096x8192 .f32) : FVec Ideal S4096x8192 .f32 :=
  mulf (mulf (broadcastInDim S4096x8192 ![] bcast_S_S4096x8192 (constant S_ .f32 0x3F000000#32)) y)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf y (mulf (broadcastInDim S4096x8192 ![] bcast_S_S4096x8192 (constant S_ .f32 0x3D372713#32)) (mulf (mulf y y) y))))))

/-- At an index it is the GELU of the product there. -/
theorem refOf_apply (y : FVec Ideal S4096x8192 .f32) (i : S4096x8192.Idx) : (refOf y i : EReal) = gelu1 (y i) := by
  have h : (refOf y i : EReal) = (Ideal.ofBits .f32 0x3F000000#32 * y i) * (Ideal.ofBits .f32 0x3F800000#32
    + Ideal.tanh (Ideal.ofBits .f32 0x3F4C422A#32 * ((y i : EReal) + Ideal.ofBits .f32 0x3D372713#32 * (((y i : EReal) * y i) * y i)))) := rfl
  rw [h]
  unfold gelu1
  rw [mul_assoc (Ideal.ofBits .f32 0x3D372713#32 * (y i : EReal)), mul_assoc (Ideal.ofBits .f32 0x3D372713#32), mul_assoc (y i : EReal)]

end Reference

/-! ## The equation -/

/-- Kernel and reference compute one function: every device ends with the whole of the reference's result. -/
theorem algebraic : Cert.algebraic_KernelIdeal_ReferenceIdeal := fun m g m' g' _ hm => by
  refine ⟨refOf (Host.dotGeneral Cert.ReferenceIdeal.dot_S4096x4096_S4096x8192_S4096x8192_1_0_0_1_n_n (φ₁ := .bf16) (φ₂ := .bf16) none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run Cert.KernelIdeal.defs _ _).mono (fun r h c => ⟨?_, (h.1 c).1, (h.1 c).2.1⟩) (run_end (F := Ideal) m g)
    refine (whole_of_reads (xstg m) (wstg m) c _ (h.1 c).2.2).trans (funext fun i => ?_)
    refine Eq.trans ?_ (refOf_apply _ i).symm
    unfold whole
    refine congrArg gelu1 ?_
    exact (total_eq m _ _ (fun c => (hm c).1) (fun c => (hm c).2) (i 0) (i 1)).trans
      ((dot_apply _ _ (i 0) (i 1)).symm.trans (congrArg _ (eq_ix2 i).symm))
  · exact (θ_run Cert.ReferenceIdeal.defs _ _).mono (fun r h => h 0) (Cert.ReferenceIdeal.Value.run (F := Ideal) m' g')

end Cert.Ring
-- ==== Proof.lean ====
/-
  The proof of `Cert.Claim`: the frames of the kernel as printed, of the kernel and of the reference at extended reals.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

open Idealize.ShloMosaic Idealize.SL.Sem

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Ring.frame_kernel, Cert.Ring.frame_ideal, frame_reference, trivial, Cert.Ring.algebraic⟩

end Cert.Proof

end
